-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x5120 : Shape := ⟨3, ![4, 512, 5120]⟩
abbrev S4x512 : Shape := ⟨2, ![4, 512]⟩
abbrev S5120x128 : Shape := ⟨2, ![5120, 128]⟩
abbrev S4x512x2 : Shape := ⟨3, ![4, 512, 2]⟩
abbrev S4x2x512 : Shape := ⟨3, ![4, 2, 512]⟩
abbrev S2048x5120 : Shape := ⟨2, ![2048, 5120]⟩
abbrev S2048x128 : Shape := ⟨2, ![2048, 128]⟩
abbrev S128x5120 : Shape := ⟨2, ![128, 5120]⟩
abbrev S128x2048 : Shape := ⟨2, ![128, 2048]⟩
abbrev S8 : Shape := ⟨1, ![8]⟩
abbrev S4 : Shape := ⟨1, ![4]⟩
abbrev S10 : Shape := ⟨1, ![10]⟩
abbrev S1 : Shape := ⟨1, ![1]⟩
abbrev S_ : Shape := ⟨0, ![]⟩
abbrev S256x5120 : Shape := ⟨2, ![256, 5120]⟩
abbrev S128x256 : Shape := ⟨2, ![128, 256]⟩
abbrev S1x256 : Shape := ⟨2, ![1, 256]⟩
abbrev S256 : Shape := ⟨1, ![256]⟩
abbrev S1x1x256 : Shape := ⟨3, ![1, 1, 256]⟩
abbrev S256x128 : Shape := ⟨2, ![256, 128]⟩
abbrev S2048x512 : Shape := ⟨2, ![2048, 512]⟩
abbrev S128x512 : Shape := ⟨2, ![128, 512]⟩
abbrev S512x128 : Shape := ⟨2, ![512, 128]⟩

abbrev nBuf : Space → Nat
  | .hbm => 11
  | .vmem => 10
  | .smem => 0
  | _ => 0

abbrev bufTy : (tb : Table) → Fin (tcTables nBuf tb) → BufTy
  | .hbm, ⟨0, _⟩ => ⟨S4x512x5120, .fp8e4m3⟩
  | .hbm, ⟨1, _⟩ => ⟨S4x512, .f32⟩
  | .hbm, ⟨2, _⟩ => ⟨S5120x128, .bf16⟩
  | .hbm, ⟨3, _⟩ => ⟨S4x512x2, .i32⟩
  | .hbm, ⟨4, _⟩ => ⟨S4x512x2, .bf16⟩
  | .hbm, ⟨5, _⟩ => ⟨S4x2x512, .i32⟩
  | .hbm, ⟨6, _⟩ => ⟨S4x2x512, .bf16⟩
  | .hbm, ⟨7, _⟩ => ⟨S2048x5120, .fp8e4m3⟩
  | .hbm, ⟨8, _⟩ => ⟨S2048x5120, .bf16⟩
  | .hbm, ⟨9, _⟩ => ⟨S5120x128, .f32⟩
  | .hbm, ⟨10, _⟩ => ⟨S2048x128, .f32⟩
  | .local _ .vmem, ⟨0, _⟩ => ⟨S2048x5120, .fp8e4m3⟩
  | .local _ .vmem, ⟨1, _⟩ => ⟨S4x512, .f32⟩
  | .local _ .vmem, ⟨2, _⟩ => ⟨S5120x128, .bf16⟩
  | .local _ .vmem, ⟨3, _⟩ => ⟨S4x2x512, .i32⟩
  | .local _ .vmem, ⟨4, _⟩ => ⟨S4x2x512, .bf16⟩
  | .local _ .vmem, ⟨5, _⟩ => ⟨S128x5120, .bf16⟩
  | .local _ .vmem, ⟨6, _⟩ => ⟨S128x2048, .bf16⟩
  | .local _ .vmem, ⟨7, _⟩ => ⟨S2048x5120, .bf16⟩
  | .local _ .vmem, ⟨8, _⟩ => ⟨S5120x128, .f32⟩
  | .local _ .vmem, ⟨9, _⟩ => ⟨S2048x128, .f32⟩
  | _, _ => ⟨S4x512x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩

abbrev nD : Nat := 1
abbrev τ : Topo := Topo.v7x

variable {F : FTy → Type} [FloatOps F]

abbrev grid0 : Pipeline.Grid := .none
-- ==== ReferenceIdeal.lean ====
abbrev S4x512x5120 : Shape := ⟨3, ![4, 512, 5120]⟩
abbrev S4x512 : Shape := ⟨2, ![4, 512]⟩
abbrev S5120x128 : Shape := ⟨2, ![5120, 128]⟩
abbrev S4x512x2 : Shape := ⟨3, ![4, 512, 2]⟩
abbrev S2048x5120 : Shape := ⟨2, ![2048, 5120]⟩
abbrev S2048x1 : Shape := ⟨2, ![2048, 1]⟩
abbrev S2048x2 : Shape := ⟨2, ![2048, 2]⟩
abbrev S2048x128 : Shape := ⟨2, ![2048, 128]⟩
abbrev S2048 : Shape := ⟨1, ![2048]⟩
abbrev S2048x2x1 : Shape := ⟨3, ![2048, 2, 1]⟩
abbrev S1x1x128 : Shape := ⟨3, ![1, 1, 128]⟩
abbrev S2048x2x128 : Shape := ⟨3, ![2048, 2, 128]⟩

abbrev nBuf : Space → Nat
  | .hbm => 12
  | .vmem => 8
  | .smem => 0
  | _ => 0

abbrev bufTy : (tb : Table) → Fin (tcTables nBuf tb) → BufTy
  | .hbm, ⟨0, _⟩ => ⟨S4x512x5120, .fp8e4m3⟩
  | .hbm, ⟨1, _⟩ => ⟨S4x512, .f32⟩
  | .hbm, ⟨2, _⟩ => ⟨S5120x128, .bf16⟩
  | .hbm, ⟨3, _⟩ => ⟨S4x512x2, .i32⟩
  | .hbm, ⟨4, _⟩ => ⟨S4x512x2, .bf16⟩
  | .hbm, ⟨5, _⟩ => ⟨S2048x5120, .fp8e4m3⟩
  | .hbm, ⟨6, _⟩ => ⟨S2048x1, .f32⟩
  | .hbm, ⟨7, _⟩ => ⟨S2048x2, .i32⟩
  | .hbm, ⟨8, _⟩ => ⟨S2048x2, .bf16⟩
  | .hbm, ⟨9, _⟩ => ⟨S2048x5120, .bf16⟩
  | .hbm, ⟨10, _⟩ => ⟨S5120x128, .f32⟩
  | .hbm, ⟨11, _⟩ => ⟨S2048x128, .f32⟩
  | .local _ .vmem, ⟨0, _⟩ => ⟨S2048x5120, .fp8e4m3⟩
  | .local _ .vmem, ⟨1, _⟩ => ⟨S2048x1, .f32⟩
  | .local _ .vmem, ⟨2, _⟩ => ⟨S5120x128, .bf16⟩
  | .local _ .vmem, ⟨3, _⟩ => ⟨S2048x2, .i32⟩
  | .local _ .vmem, ⟨4, _⟩ => ⟨S2048x2, .bf16⟩
  | .local _ .vmem, ⟨5, _⟩ => ⟨S2048x5120, .bf16⟩
  | .local _ .vmem, ⟨6, _⟩ => ⟨S5120x128, .f32⟩
  | .local _ .vmem, ⟨7, _⟩ => ⟨S2048x128, .f32⟩
  | _, _ => ⟨S4x512x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.BodyKernel.lean ====
/- The kernel's body at its one point: every own transfer, load and store of `cc0_router_bwd` run once, in order. -/
module

public import proofs.«01_k».proof.Defs
public import proofs.«01_k».proof.Proof.Gen.Kernel.Frame
public import proofs.«01_k».proof.Proof.Gen.Kernel.Skeleton
public import Idealize.ShloMosaic.Lib.Pipeline.Routed
public import Idealize.ShloMosaic.Lib.Ring
public import Idealize.ShloMosaic.Lib.Tactic

@[expose] public section

set_option maxRecDepth 16384

noncomputable section

namespace Cert.Proof.BodyKernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev 𝒱₀ : Variants := Variants.none

/-- A buffer of core `c`, whole, at contents `f`. -/
abbrev bufP (c : Dev nD) (b : Ref sig .tc) (f : Buf (Elt F) ((Memref.whole b).view.loc (c : Thread nD τ))) : sProp 𝕄 :=
  (Memref.whole b).view.loc (c : Thread nD τ) ↦{fullShare} f
/-- The kernel's own semaphore `k` of core `c`, at zero. -/
abbrev cellP (c : Dev nD) (k : Fin 38) : sProp 𝕄 := semVal ((c : Thread nD τ), (SemLoc.dma k : SemLoc sig)) 0
/-- All the kernel's own semaphores at zero. -/
abbrev cellsP (c : Dev nD) : sProp 𝕄 :=
  iprop(cellP c 0 ∗ cellP c 1 ∗ cellP c 2 ∗ cellP c 3 ∗ cellP c 4 ∗ cellP c 5 ∗ cellP c 6 ∗ cellP c 7
    ∗ cellP c 8 ∗ cellP c 9 ∗ cellP c 10 ∗ cellP c 11 ∗ cellP c 12 ∗ cellP c 13 ∗ cellP c 14 ∗ cellP c 15
    ∗ cellP c 16 ∗ cellP c 17 ∗ cellP c 18 ∗ cellP c 19 ∗ cellP c 20 ∗ cellP c 21 ∗ cellP c 22 ∗ cellP c 23
    ∗ cellP c 24 ∗ cellP c 25 ∗ cellP c 26 ∗ cellP c 27 ∗ cellP c 28 ∗ cellP c 29 ∗ cellP c 30 ∗ cellP c 31
    ∗ cellP c 32 ∗ cellP c 33 ∗ cellP c 34 ∗ cellP c 35 ∗ cellP c 36 ∗ cellP c 37)

/-- The kernel on its own operands and scratch. -/
abbrev bodyG : Prog (TpuEff nD τ sig (Elt F) Λ₀ .tc) PUnit :=
  cc0_router_bwd (Memref.whole main_v2) (Memref.isWhole_whole _) (Memref.whole main_arg1) (Memref.isWhole_whole _) (Memref.whole main_arg2) (Memref.isWhole_whole _) (Memref.whole main_v0) (Memref.isWhole_whole _) (Memref.whole main_v1) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14

section Run
variable (c : Dev nD)
  (X : Buf (Elt F) ((c : Thread nD τ).loc main_v2)) (S : Buf (Elt F) ((c : Thread nD τ).loc main_arg1))
  (W : Buf (Elt F) ((c : Thread nD τ).loc main_arg2)) (I : Buf (Elt F) ((c : Thread nD τ).loc main_v0))
  (G : Buf (Elt F) ((c : Thread nD τ).loc main_v1))

/-- The operands and the results, whole. -/
abbrev opsP (dx : Buf (Elt F) ((c : Thread nD τ).loc main_v3_0)) (dw : Buf (Elt F) ((c : Thread nD τ).loc main_v3_1)) (dl : Buf (Elt F) ((c : Thread nD τ).loc main_v3_2)) : sProp 𝕄 :=
  iprop(bufP c main_v2 X ∗ bufP c main_arg1 S ∗ bufP c main_arg2 W ∗ bufP c main_v0 I ∗ bufP c main_v1 G
    ∗ bufP c main_v3_0 dx ∗ bufP c main_v3_1 dw ∗ bufP c main_v3_2 dl)
/-- The kernel's scratch buffers at some contents. -/
abbrev scratchP : sProp 𝕄 :=
  iprop((∃ f, bufP c cc0_scratch0 f) ∗ (∃ f, bufP c cc0_scratch1 f) ∗ (∃ f, bufP c cc0_scratch2 f) ∗ (∃ f, bufP c cc0_scratch3 f) ∗ (∃ f, bufP c cc0_scratch4 f) ∗ (∃ f, bufP c cc0_scratch5 f) ∗ (∃ f, bufP c cc0_scratch6 f) ∗ (∃ f, bufP c cc0_scratch7 f) ∗ (∃ f, bufP c cc0_scratch8 f) ∗ (∃ f, bufP c cc0_scratch9 f))

set_option sl_exec.dmaWindow true in
set_option backward.proofsInPublic true in
/-- The body run once from any contents of its scratch and results: the contents it leaves in the three results (found by
    the run), every operand as it was, every semaphore back at zero. -/
def bodyRun (f0 : Buf (Elt F) ((c : Thread nD τ).loc cc0_scratch0)) (f1 : Buf (Elt F) ((c : Thread nD τ).loc cc0_scratch1)) (f2 : Buf (Elt F) ((c : Thread nD τ).loc cc0_scratch2)) (f3 : Buf (Elt F) ((c : Thread nD τ).loc cc0_scratch3)) (f4 : Buf (Elt F) ((c : Thread nD τ).loc cc0_scratch4)) (f5 : Buf (Elt F) ((c : Thread nD τ).loc cc0_scratch5)) (f6 : Buf (Elt F) ((c : Thread nD τ).loc cc0_scratch6)) (f7 : Buf (Elt F) ((c : Thread nD τ).loc cc0_scratch7)) (f8 : Buf (Elt F) ((c : Thread nD τ).loc cc0_scratch8)) (f9 : Buf (Elt F) ((c : Thread nD τ).loc cc0_scratch9))
    (dx : Buf (Elt F) ((c : Thread nD τ).loc main_v3_0)) (dw : Buf (Elt F) ((c : Thread nD τ).loc main_v3_1)) (dl : Buf (Elt F) ((c : Thread nD τ).loc main_v3_2)) :
    { r : Buf (Elt F) ((c : Thread nD τ).loc main_v3_0) × Buf (Elt F) ((c : Thread nD τ).loc main_v3_1) × Buf (Elt F) ((c : Thread nD τ).loc main_v3_2) //
      ∀ (O : Waits sig Unit) (Q : PUnit → sProp 𝕄),
      iprop((opsP c X S W I G dx dw dl ∗ (bufP c cc0_scratch0 f0 ∗ bufP c cc0_scratch1 f1 ∗ bufP c cc0_scratch2 f2 ∗ bufP c cc0_scratch3 f3 ∗ bufP c cc0_scratch4 f4 ∗ bufP c cc0_scratch5 f5 ∗ bufP c cc0_scratch6 f6 ∗ bufP c cc0_scratch7 f7 ∗ bufP c cc0_scratch8 f8 ∗ bufP c cc0_scratch9 f9) ∗ cellsP c ∗ owes (c : Thread nD τ) 0 O)
          ∗ ((opsP c X S W I G r.1 r.2.1 r.2.2 ∗ scratchP c ∗ cellsP c ∗ (∃ O', owes (c : Thread nD τ) 0 O')) -∗ Q ⟨⟩))
        ⊢ wp frame (wpE (defs₀ (F := F)) 𝒱₀ (c : Thread nD τ) none) Set.univ (bodyG (F := F)) Q } := by
  refine ⟨(?_, ?_, ?_), ?run⟩
  case run =>
    intro O Q
    iintro ⟨⟨⟨HX, HS, HW, HI, HG, HDX, HDW, HDL⟩, ⟨HB0, HB1, HB2, HB3, HB4, HB5, HB6, HB7, HB8, HB9⟩, ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, Hc34, Hc35, Hc36, Hc37⟩, HO⟩, Hk⟩
    dsimp only [bodyG]
    sl_exec_parts
    sl_step
    iapply Hk
    isplitl [HX HS HW HI HG HDX HDW HDL]
    · isplitl [HX]; · iexact HX
      isplitl [HS]; · iexact HS
      isplitl [HW]; · iexact HW
      isplitl [HI]; · iexact HI
      isplitl [HG]; · iexact HG
      isplitl [HDX]; · iexact HDX
      isplitl [HDW]; · iexact HDW
      iexact HDL
    isplitl [HB0 HB1 HB2 HB3 HB4 HB5 HB6 HB7 HB8 HB9]
    · isplitl [HB0]; · iexists _; iexact HB0
      isplitl [HB1]; · iexists _; iexact HB1
      isplitl [HB2]; · iexists _; iexact HB2
      isplitl [HB3]; · iexists _; iexact HB3
      isplitl [HB4]; · iexists _; iexact HB4
      isplitl [HB5]; · iexists _; iexact HB5
      isplitl [HB6]; · iexists _; iexact HB6
      isplitl [HB7]; · iexists _; iexact HB7
      isplitl [HB8]; · iexists _; iexact HB8
      iexists _; iexact HB9
    isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27 Hc28 Hc29 Hc30 Hc31 Hc32 Hc33 Hc34 Hc35 Hc36 Hc37]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      isplitl [Hc16]; · iexact Hc16
      isplitl [Hc17]; · iexact Hc17
      isplitl [Hc18]; · iexact Hc18
      isplitl [Hc19]; · iexact Hc19
      isplitl [Hc20]; · iexact Hc20
      isplitl [Hc21]; · iexact Hc21
      isplitl [Hc22]; · iexact Hc22
      isplitl [Hc23]; · iexact Hc23
      isplitl [Hc24]; · iexact Hc24
      isplitl [Hc25]; · iexact Hc25
      isplitl [Hc26]; · iexact Hc26
      isplitl [Hc27]; · iexact Hc27
      isplitl [Hc28]; · iexact Hc28
      isplitl [Hc29]; · iexact Hc29
      isplitl [Hc30]; · iexact Hc30
      isplitl [Hc31]; · iexact Hc31
      isplitl [Hc32]; · iexact Hc32
      isplitl [Hc33]; · iexact Hc33
      isplitl [Hc34]; · iexact Hc34
      isplitl [Hc35]; · iexact Hc35
      isplitl [Hc36]; · iexact Hc36
      iexact Hc37
    iexists _; iexact HO

end Run
end Cert.Proof.BodyKernel
-- ==== Proof.LaunchKernel.lean ====
/- The launch: from any memory with zero counters the program runs to its end, leaves its arguments and every counter as
   they were, and leaves in the results what one run of the body (`bodyRun`) leaves there. -/
module

public import proofs.«01_k».proof.Defs
public import proofs.«01_k».proof.Proof.BodyKernel
public import proofs.«01_k».proof.Proof.Gen.Kernel.Frame
public import proofs.«01_k».proof.Proof.Gen.Kernel.Skeleton
public import Idealize.ShloMosaic.Lib.Pipeline.KitQuiescent
public import Idealize.ShloMosaic.Lib.Pipeline.Routed
public import Idealize.ShloMosaic.Lib.Ring
public import Idealize.ShloMosaic.Lib.Tactic

@[expose] public section

set_option maxRecDepth 16384

noncomputable section

namespace Cert.Proof.LaunchKernel

open Cert.Kernel Cert.Kernel.Gen Cert.Proof.BodyKernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-- What one run of the body may leave in the three results, from any contents of the scratch and of the results. -/
def Out (c : Dev nD) (X : Buf (Elt F) ((c : Thread nD τ).loc main_v2)) (S : Buf (Elt F) ((c : Thread nD τ).loc main_arg1))
    (W : Buf (Elt F) ((c : Thread nD τ).loc main_arg2)) (I : Buf (Elt F) ((c : Thread nD τ).loc main_v0))
    (G : Buf (Elt F) ((c : Thread nD τ).loc main_v1))
    (dx : Buf (Elt F) ((c : Thread nD τ).loc main_v3_0)) (dw : Buf (Elt F) ((c : Thread nD τ).loc main_v3_1)) (dl : Buf (Elt F) ((c : Thread nD τ).loc main_v3_2)) : Prop :=
  ∃ f0 f1 f2 f3 f4 f5 f6 f7 f8 f9 dx0 dw0 dl0, dx = (bodyRun c X S W I G f0 f1 f2 f3 f4 f5 f6 f7 f8 f9 dx0 dw0 dl0).1.1 ∧ dw = (bodyRun c X S W I G f0 f1 f2 f3 f4 f5 f6 f7 f8 f9 dx0 dw0 dl0).1.2.1 ∧ dl = (bodyRun c X S W I G f0 f1 f2 f3 f4 f5 f6 f7 f8 f9 dx0 dw0 dl0).1.2.2

theorem out_run (c : Dev nD) (X : Buf (Elt F) ((c : Thread nD τ).loc main_v2)) (S : Buf (Elt F) ((c : Thread nD τ).loc main_arg1))
    (W : Buf (Elt F) ((c : Thread nD τ).loc main_arg2)) (I : Buf (Elt F) ((c : Thread nD τ).loc main_v0))
    (G : Buf (Elt F) ((c : Thread nD τ).loc main_v1)) (f0 f1 f2 f3 f4 f5 f6 f7 f8 f9) (dx0) (dw0) (dl0) :
    Out c X S W I G (bodyRun c X S W I G f0 f1 f2 f3 f4 f5 f6 f7 f8 f9 dx0 dw0 dl0).1.1 (bodyRun c X S W I G f0 f1 f2 f3 f4 f5 f6 f7 f8 f9 dx0 dw0 dl0).1.2.1 (bodyRun c X S W I G f0 f1 f2 f3 f4 f5 f6 f7 f8 f9 dx0 dw0 dl0).1.2.2 := ⟨f0, f1, f2, f3, f4, f5, f6, f7, f8, f9, dx0, dw0, dl0, rfl, rfl, rfl⟩

/-- `Out` at the operands the region finds. -/
def OutV (c : Dev nD) (dx : Buf (Elt F) ((c : Thread nD τ).loc main_v3_0)) (dw : Buf (Elt F) ((c : Thread nD τ).loc main_v3_1)) (dl : Buf (Elt F) ((c : Thread nD τ).loc main_v3_2)) : Prop :=
  Out c (V m c main_v2) (V m c main_arg1) (V m c main_arg2) (V m c main_v0) (V m c main_v1) dx dw dl

/-- The arguments the body does not touch. -/
def restP (c : Dev nD) : sProp 𝕄 :=
  iprop(bufP c main_arg0 (V m c main_arg0) ∗ bufP c main_arg3 (V m c main_arg3) ∗ bufP c main_arg4 (V m c main_arg4))

/-- The operands and results of core `c`, the results at contents that satisfy `P`. -/
def arrP (c : Dev nD) (P : Buf (Elt F) ((c : Thread nD τ).loc main_v3_0) → Buf (Elt F) ((c : Thread nD τ).loc main_v3_1) → Buf (Elt F) ((c : Thread nD τ).loc main_v3_2) → Prop) : sProp 𝕄 :=
  iprop(∃ dx dw dl, ⌜P dx dw dl⌝ ∗ opsP c (V m c main_v2) (V m c main_arg1) (V m c main_arg2) (V m c main_v0) (V m c main_v1) dx dw dl)

/-- The region's invariant: everything whole; after the one point the results are what the body leaves. -/
def Φ (c : Dev nD) (t : Fin (cfg0.N + 1)) : sProp 𝕄 :=
  iprop(arrP m c (fun dx dw dl => 0 < t.val → OutV m c dx dw dl) ∗ restP m c ∗ scratchP c ∗ cellsP c)

def dats (_ : Fin 1) (c : Dev nD) : Dat τ (Elt F) Unit ℕ (UU nD τ) ℕ cfg0 c where
  A w := w.elim0
  after w _ := w.elim0
  Φ t := Φ m c t
  q _ := fullShare
  owed _ := 0

/-- The kernel's own semaphores. -/
abbrev osem : Fin 38 → SemLoc sig := fun k => .dma k
theorem ownSemFacts : Pipeline.OwnSemFacts cfg0.spec osem := by decide

omit [FloatOps F] in
theorem ownSems0_eq (c : Dev nD) : (Pipeline.ownSems0 (Ix := Unit) (Name := ℕ) (U := UU nD τ) (Lvl := ℕ) (Val := Elt F) (τ := τ) osem c : sProp 𝕄)
    = cellsP c := by
  exact Pipeline.ownSems0_eq_of_list c osem [(0 : Fin 38), 1, 2, 3, 4, 5, 6, 7, 8, 9, 10, 11, 12, 13, 14, 15, 16, 17, 18, 19, 20, 21, 22, 23, 24, 25, 26, 27, 28, 29, 30, 31, 32, 33, 34, 35, 36, 37] (by decide) (by decide)

/-! ## The body obligation -/

theorem defs_tc : (defs₀ (F := F)) .tc cfg0.body = fun _ => bodyG (F := F) := rfl
theorem prog_eq (t : Fin cfg0.N) : (defs₀ (F := F)) .tc cfg0.body (cfg0.bodyArgs t (cfg0.slots t)) = bodyG (F := F) :=
  (congrFun defs_tc _).trans rfl

omit [FloatOps F] in
theorem bigSep_none (P : Fin cfg0.W → sProp 𝕄) : bigSep Finset.univ P = iprop(emp) := by
  rw [show (Finset.univ : Finset (Fin cfg0.W)) = ∅ from rfl, bigSep_empty]; rfl

set_option backward.isDefEq.respectTransparency.types false in
theorem body_obligation (c : Dev nD) : BodyObligation (dats (F := F) m 0 c) (defs₀ (F := F)) 𝒱₀ () Set.univ := fun t => by
  have ht : t.val = 0 := by have := t.isLt; have h : cfg0.N = 1 := N_0; omega
  rw [bigSep_none, bigSep_none]
  dsimp only
  rw [show (dats m 0 c).Φ t.castSucc = Φ m c t.castSucc from rfl, show (dats m 0 c).Φ t.succ = Φ m c t.succ from rfl]
  unfold Dat.owesAt Pipeline.owesWithin
  rw [show (dats m 0 c).owed t.castSucc = 0 from rfl, show (dats m 0 c).owed t.succ = 0 from rfl]
  unfold Φ arrP
  iintro ⟨⟨⟨%dx, %dw, %dl, -, HO⟩, HR, ⟨⟨%f0, HB0⟩, ⟨%f1, HB1⟩, ⟨%f2, HB2⟩, ⟨%f3, HB3⟩, ⟨%f4, HB4⟩, ⟨%f5, HB5⟩, ⟨%f6, HB6⟩, ⟨%f7, HB7⟩, ⟨%f8, HB8⟩, ⟨%f9, HB9⟩⟩, HC⟩, ⟨%W, -, HW⟩, -⟩
  sl_rw [prog_eq t]
  iapply ((bodyRun c (V m c main_v2) (V m c main_arg1) (V m c main_arg2) (V m c main_v0) (V m c main_v1) f0 f1 f2 f3 f4 f5 f6 f7 f8 f9 dx dw dl).2 W _)
  isplitl [HO HB0 HB1 HB2 HB3 HB4 HB5 HB6 HB7 HB8 HB9 HC HW]
  · isplitl [HO]; · iexact HO
    isplitl [HB0 HB1 HB2 HB3 HB4 HB5 HB6 HB7 HB8 HB9]
    · isplitl [HB0]; · iexact HB0
      isplitl [HB1]; · iexact HB1
      isplitl [HB2]; · iexact HB2
      isplitl [HB3]; · iexact HB3
      isplitl [HB4]; · iexact HB4
      isplitl [HB5]; · iexact HB5
      isplitl [HB6]; · iexact HB6
      isplitl [HB7]; · iexact HB7
      isplitl [HB8]; · iexact HB8
      iexact HB9
    isplitl [HC]; · iexact HC
    iexact HW
  · iintro ⟨HO, HS, HC, ⟨%W', HW⟩⟩
    isplitl [HO HR HS HC]
    · isplitl [HO]
      · iexists (bodyRun c (V m c main_v2) (V m c main_arg1) (V m c main_arg2) (V m c main_v0) (V m c main_v1) f0 f1 f2 f3 f4 f5 f6 f7 f8 f9 dx dw dl).1.1
        iexists (bodyRun c (V m c main_v2) (V m c main_arg1) (V m c main_arg2) (V m c main_v0) (V m c main_v1) f0 f1 f2 f3 f4 f5 f6 f7 f8 f9 dx dw dl).1.2.1
        iexists (bodyRun c (V m c main_v2) (V m c main_arg1) (V m c main_arg2) (V m c main_v0) (V m c main_v1) f0 f1 f2 f3 f4 f5 f6 f7 f8 f9 dx dw dl).1.2.2
        isplitr
        · ipureintro; intro _; exact out_run c _ _ _ _ _ f0 f1 f2 f3 f4 f5 f6 f7 f8 f9 dx dw dl
        iexact HO
      isplitl [HR]; · iexact HR
      isplitl [HS]; · iexact HS
      iexact HC
    isplitl [HW]
    · iexists W'; isplitr; · ipureintro; exact fun _ _ => Or.inl trivial
      iexact HW
    iempintro

/-! ## The run -/

def u₀ : UU nD τ := (initOf (Pipeline.cells cfgs cellOf_inj) (Pipeline.launchToks cfgs cellOf_inj), 1)

/-- What a final state satisfies on core `c`: the arguments as launched, the results what the body leaves. -/
def QY (c : Dev nD) (s : MemSt nD τ sig (Elt F)) : Prop :=
  (∃ dx dw dl, OutV m c dx dw dl ∧ s.mem ((c : Thread nD τ).loc main_v3_0) = dx ∧ s.mem ((c : Thread nD τ).loc main_v3_1) = dw ∧ s.mem ((c : Thread nD τ).loc main_v3_2) = dl)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

set_option backward.isDefEq.respectTransparency.types false in
/-- For any float values, from any memory with zero counters: every weakly fair execution of @main on the TensorCores
    terminates, and every final state has the arguments unchanged, the results at what the body leaves, every
    semaphore counter at zero. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts embL defs₀ 𝒱₀ m ρ main
    (hbody := fun c => (body_obligation m c).loose) (hshare := fun c w => w.elim0)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := fun c => iprop(arrP m c (fun _ _ _ => True) ∗ restP m c ∗ cellsP c))
    (Y := fun c => iprop(arrP m c (OutV m c) ∗ restP m c)) (Z := fun _ => iprop(emp))
    (hX := fun c => by
      rw [unscopedRest0_eq, ownSems0_eq]
      unfold arrP restP
      iintro ⟨⟨H_main_arg0, H_main_arg1, H_main_arg2, H_main_arg3, H_main_arg4, H_main_v0, H_main_v1, H_main_v2, H_main_v3_0, H_main_v3_1, H_main_v3_2⟩, HC, -⟩; imodintro
      isplitl [HC H_main_arg0 H_main_arg1 H_main_arg2 H_main_arg3 H_main_arg4 H_main_v0 H_main_v1 H_main_v2 H_main_v3_0 H_main_v3_1 H_main_v3_2]
      · isplitl [H_main_v2 H_main_arg1 H_main_arg2 H_main_v0 H_main_v1 H_main_v3_0 H_main_v3_1 H_main_v3_2]
        · iexists (V m c main_v3_0), (V m c main_v3_1), (V m c main_v3_2); isplitr; · ipureintro; trivial
          isplitl [H_main_v2]; · iexact H_main_v2
          isplitl [H_main_arg1]; · iexact H_main_arg1
          isplitl [H_main_arg2]; · iexact H_main_arg2
          isplitl [H_main_v0]; · iexact H_main_v0
          isplitl [H_main_v1]; · iexact H_main_v1
          isplitl [H_main_v3_0]; · iexact H_main_v3_0
          isplitl [H_main_v3_1]; · iexact H_main_v3_1
          iexact H_main_v3_2
        isplitl [H_main_arg0 H_main_arg3 H_main_arg4]
        · isplitl [H_main_arg0]; · iexact H_main_arg0
          isplitl [H_main_arg3]; · iexact H_main_arg3
          iexact H_main_arg4
        iexact HC
      iempintro)
    (hin := fun c => by
      rw [scopedRest0_eq, show (dats m 0 c).Φ 0 = Φ m c 0 from rfl]
      unfold Φ arrP
      iintro ⟨⟨⟨%dx, %dw, %dl, -, HO⟩, HR, HC⟩, HS⟩
      isplitl [HO]
      · iexists dx, dw, dl; isplitr; · ipureintro; exact fun h => absurd h (lt_irrefl 0)
        iexact HO
      isplitl [HR]; · iexact HR
      isplitl [HS]; · iexact HS
      iexact HC)
    (hout := fun c => by
      rw [scopedRest0_eq, show (dats m 0 c).Φ (Fin.last cfg0.N) = Φ m c (Fin.last cfg0.N) from rfl, ownSems0_eq]
      unfold Φ arrP
      iintro ⟨⟨%dx, %dw, %dl, %ho, HO⟩, HR, HS, HC⟩
      isplitl [HO HR]
      · isplitl [HO]
        · iexists dx, dw, dl; isplitr
          · ipureintro; exact ho (by have h : cfg0.N = 1 := N_0; simp [Fin.last, h])
          iexact HO
        iexact HR
      isplitl [HC]; · iexact HC
      iexact HS)
    (QY := QY m)
    (hY := fun c s' => by
      unfold arrP restP
      iintro ⟨⟨⟨%dx, %dw, %dl, %ho, ⟨H_main_v2, H_main_arg1, H_main_arg2, H_main_v0, H_main_v1, H_main_v3_0, H_main_v3_1, H_main_v3_2⟩⟩, ⟨H_main_arg0, H_main_arg3, H_main_arg4⟩⟩, -, HSI⟩
      icombine HSI H_main_v3_0 gives %e_main_v3_0
      icombine HSI H_main_v3_1 gives %e_main_v3_1
      icombine HSI H_main_v3_2 gives %e_main_v3_2
      icombine HSI H_main_arg0 gives %e_main_arg0
      icombine HSI H_main_arg1 gives %e_main_arg1
      icombine HSI H_main_arg2 gives %e_main_arg2
      icombine HSI H_main_arg3 gives %e_main_arg3
      icombine HSI H_main_arg4 gives %e_main_arg4
      imodintro
      isplitr
      · ipureintro
        exact ⟨⟨dx, dw, dl, ho, Buf.eq_of_forall_mem_univ e_main_v3_0, Buf.eq_of_forall_mem_univ e_main_v3_1, Buf.eq_of_forall_mem_univ e_main_v3_2⟩,
          (Buf.eq_of_forall_mem_univ e_main_arg0).trans (V_main_arg0 m c), (Buf.eq_of_forall_mem_univ e_main_arg1).trans (V_main_arg1 m c),
          (Buf.eq_of_forall_mem_univ e_main_arg2).trans (V_main_arg2 m c), (Buf.eq_of_forall_mem_univ e_main_arg3).trans (V_main_arg3 m c),
          (Buf.eq_of_forall_mem_univ e_main_arg4).trans (V_main_arg4 m c)⟩
      iexact HSI)
    (hQ := fun _ hh hz => ⟨fun c => (hh c).2, hz⟩)

/-- `Cert.quiescent_Kernel` (Defs.lean). -/
theorem frame : Cert.quiescent_Kernel := fun m ρ _ =>
  (θ_run defs _ _).mono (fun _ hh => ⟨fun c => (hh.1 c).2, hh.2⟩) (run_main (F := Bits) m ρ)

end Cert.Proof.LaunchKernel

end
-- ==== Proof.BodyKernelIdeal.lean ====
/- The kernel's body at its one point: every own transfer, load and store of `cc0_router_bwd` run once, in order. -/
module

public import proofs.«01_k».proof.Defs
public import proofs.«01_k».proof.Proof.Gen.KernelIdeal.Frame
public import proofs.«01_k».proof.Proof.Gen.KernelIdeal.Skeleton
public import Idealize.ShloMosaic.Lib.Pipeline.Routed
public import Idealize.ShloMosaic.Lib.Ring
public import Idealize.ShloMosaic.Lib.Tactic

@[expose] public section

set_option maxRecDepth 16384

noncomputable section

namespace Cert.Proof.BodyKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev 𝒱₀ : Variants := Variants.none

/-- A buffer of core `c`, whole, at contents `f`. -/
abbrev bufP (c : Dev nD) (b : Ref sig .tc) (f : Buf (Elt F) ((Memref.whole b).view.loc (c : Thread nD τ))) : sProp 𝕄 :=
  (Memref.whole b).view.loc (c : Thread nD τ) ↦{fullShare} f
/-- The kernel's own semaphore `k` of core `c`, at zero. -/
abbrev cellP (c : Dev nD) (k : Fin 38) : sProp 𝕄 := semVal ((c : Thread nD τ), (SemLoc.dma k : SemLoc sig)) 0
/-- All the kernel's own semaphores at zero. -/
abbrev cellsP (c : Dev nD) : sProp 𝕄 :=
  iprop(cellP c 0 ∗ cellP c 1 ∗ cellP c 2 ∗ cellP c 3 ∗ cellP c 4 ∗ cellP c 5 ∗ cellP c 6 ∗ cellP c 7
    ∗ cellP c 8 ∗ cellP c 9 ∗ cellP c 10 ∗ cellP c 11 ∗ cellP c 12 ∗ cellP c 13 ∗ cellP c 14 ∗ cellP c 15
    ∗ cellP c 16 ∗ cellP c 17 ∗ cellP c 18 ∗ cellP c 19 ∗ cellP c 20 ∗ cellP c 21 ∗ cellP c 22 ∗ cellP c 23
    ∗ cellP c 24 ∗ cellP c 25 ∗ cellP c 26 ∗ cellP c 27 ∗ cellP c 28 ∗ cellP c 29 ∗ cellP c 30 ∗ cellP c 31
    ∗ cellP c 32 ∗ cellP c 33 ∗ cellP c 34 ∗ cellP c 35 ∗ cellP c 36 ∗ cellP c 37)

/-- The kernel on its own operands and scratch. -/
abbrev bodyG : Prog (TpuEff nD τ sig (Elt F) Λ₀ .tc) PUnit :=
  cc0_router_bwd (Memref.whole main_v2) (Memref.isWhole_whole _) (Memref.whole main_arg1) (Memref.isWhole_whole _) (Memref.whole main_arg2) (Memref.isWhole_whole _) (Memref.whole main_v0) (Memref.isWhole_whole _) (Memref.whole main_v1) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14

section Run
variable (c : Dev nD)
  (X : Buf (Elt F) ((c : Thread nD τ).loc main_v2)) (S : Buf (Elt F) ((c : Thread nD τ).loc main_arg1))
  (W : Buf (Elt F) ((c : Thread nD τ).loc main_arg2)) (I : Buf (Elt F) ((c : Thread nD τ).loc main_v0))
  (G : Buf (Elt F) ((c : Thread nD τ).loc main_v1))

/-- The operands and the results, whole. -/
abbrev opsP (dx : Buf (Elt F) ((c : Thread nD τ).loc main_v3_0)) (dw : Buf (Elt F) ((c : Thread nD τ).loc main_v3_1)) (dl : Buf (Elt F) ((c : Thread nD τ).loc main_v3_2)) : sProp 𝕄 :=
  iprop(bufP c main_v2 X ∗ bufP c main_arg1 S ∗ bufP c main_arg2 W ∗ bufP c main_v0 I ∗ bufP c main_v1 G
    ∗ bufP c main_v3_0 dx ∗ bufP c main_v3_1 dw ∗ bufP c main_v3_2 dl)
/-- The kernel's scratch buffers at some contents. -/
abbrev scratchP : sProp 𝕄 :=
  iprop((∃ f, bufP c cc0_scratch0 f) ∗ (∃ f, bufP c cc0_scratch1 f) ∗ (∃ f, bufP c cc0_scratch2 f) ∗ (∃ f, bufP c cc0_scratch3 f) ∗ (∃ f, bufP c cc0_scratch4 f) ∗ (∃ f, bufP c cc0_scratch5 f) ∗ (∃ f, bufP c cc0_scratch6 f) ∗ (∃ f, bufP c cc0_scratch7 f) ∗ (∃ f, bufP c cc0_scratch8 f) ∗ (∃ f, bufP c cc0_scratch9 f))

set_option sl_exec.dmaWindow true in
set_option backward.proofsInPublic true in
/-- The body run once from any contents of its scratch and results: the contents it leaves in the three results (found by
    the run), every operand as it was, every semaphore back at zero. -/
def bodyRun (f0 : Buf (Elt F) ((c : Thread nD τ).loc cc0_scratch0)) (f1 : Buf (Elt F) ((c : Thread nD τ).loc cc0_scratch1)) (f2 : Buf (Elt F) ((c : Thread nD τ).loc cc0_scratch2)) (f3 : Buf (Elt F) ((c : Thread nD τ).loc cc0_scratch3)) (f4 : Buf (Elt F) ((c : Thread nD τ).loc cc0_scratch4)) (f5 : Buf (Elt F) ((c : Thread nD τ).loc cc0_scratch5)) (f6 : Buf (Elt F) ((c : Thread nD τ).loc cc0_scratch6)) (f7 : Buf (Elt F) ((c : Thread nD τ).loc cc0_scratch7)) (f8 : Buf (Elt F) ((c : Thread nD τ).loc cc0_scratch8)) (f9 : Buf (Elt F) ((c : Thread nD τ).loc cc0_scratch9))
    (dx : Buf (Elt F) ((c : Thread nD τ).loc main_v3_0)) (dw : Buf (Elt F) ((c : Thread nD τ).loc main_v3_1)) (dl : Buf (Elt F) ((c : Thread nD τ).loc main_v3_2)) :
    { r : Buf (Elt F) ((c : Thread nD τ).loc main_v3_0) × Buf (Elt F) ((c : Thread nD τ).loc main_v3_1) × Buf (Elt F) ((c : Thread nD τ).loc main_v3_2) //
      ∀ (O : Waits sig Unit) (Q : PUnit → sProp 𝕄),
      iprop((opsP c X S W I G dx dw dl ∗ (bufP c cc0_scratch0 f0 ∗ bufP c cc0_scratch1 f1 ∗ bufP c cc0_scratch2 f2 ∗ bufP c cc0_scratch3 f3 ∗ bufP c cc0_scratch4 f4 ∗ bufP c cc0_scratch5 f5 ∗ bufP c cc0_scratch6 f6 ∗ bufP c cc0_scratch7 f7 ∗ bufP c cc0_scratch8 f8 ∗ bufP c cc0_scratch9 f9) ∗ cellsP c ∗ owes (c : Thread nD τ) 0 O)
          ∗ ((opsP c X S W I G r.1 r.2.1 r.2.2 ∗ scratchP c ∗ cellsP c ∗ (∃ O', owes (c : Thread nD τ) 0 O')) -∗ Q ⟨⟩))
        ⊢ wp frame (wpE (defs₀ (F := F)) 𝒱₀ (c : Thread nD τ) none) Set.univ (bodyG (F := F)) Q } := by
  refine ⟨(?_, ?_, ?_), ?run⟩
  case run =>
    intro O Q
    iintro ⟨⟨⟨HX, HS, HW, HI, HG, HDX, HDW, HDL⟩, ⟨HB0, HB1, HB2, HB3, HB4, HB5, HB6, HB7, HB8, HB9⟩, ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, Hc34, Hc35, Hc36, Hc37⟩, HO⟩, Hk⟩
    dsimp only [bodyG]
    sl_exec_parts
    sl_step
    iapply Hk
    isplitl [HX HS HW HI HG HDX HDW HDL]
    · isplitl [HX]; · iexact HX
      isplitl [HS]; · iexact HS
      isplitl [HW]; · iexact HW
      isplitl [HI]; · iexact HI
      isplitl [HG]; · iexact HG
      isplitl [HDX]; · iexact HDX
      isplitl [HDW]; · iexact HDW
      iexact HDL
    isplitl [HB0 HB1 HB2 HB3 HB4 HB5 HB6 HB7 HB8 HB9]
    · isplitl [HB0]; · iexists _; iexact HB0
      isplitl [HB1]; · iexists _; iexact HB1
      isplitl [HB2]; · iexists _; iexact HB2
      isplitl [HB3]; · iexists _; iexact HB3
      isplitl [HB4]; · iexists _; iexact HB4
      isplitl [HB5]; · iexists _; iexact HB5
      isplitl [HB6]; · iexists _; iexact HB6
      isplitl [HB7]; · iexists _; iexact HB7
      isplitl [HB8]; · iexists _; iexact HB8
      iexists _; iexact HB9
    isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27 Hc28 Hc29 Hc30 Hc31 Hc32 Hc33 Hc34 Hc35 Hc36 Hc37]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      isplitl [Hc16]; · iexact Hc16
      isplitl [Hc17]; · iexact Hc17
      isplitl [Hc18]; · iexact Hc18
      isplitl [Hc19]; · iexact Hc19
      isplitl [Hc20]; · iexact Hc20
      isplitl [Hc21]; · iexact Hc21
      isplitl [Hc22]; · iexact Hc22
      isplitl [Hc23]; · iexact Hc23
      isplitl [Hc24]; · iexact Hc24
      isplitl [Hc25]; · iexact Hc25
      isplitl [Hc26]; · iexact Hc26
      isplitl [Hc27]; · iexact Hc27
      isplitl [Hc28]; · iexact Hc28
      isplitl [Hc29]; · iexact Hc29
      isplitl [Hc30]; · iexact Hc30
      isplitl [Hc31]; · iexact Hc31
      isplitl [Hc32]; · iexact Hc32
      isplitl [Hc33]; · iexact Hc33
      isplitl [Hc34]; · iexact Hc34
      isplitl [Hc35]; · iexact Hc35
      isplitl [Hc36]; · iexact Hc36
      iexact Hc37
    iexists _; iexact HO

end Run
end Cert.Proof.BodyKernelIdeal
-- ==== Proof.LaunchKernelIdeal.lean ====
/- The launch: from any memory with zero counters the program runs to its end, leaves its arguments and every counter as
   they were, and leaves in the results what one run of the body (`bodyRun`) leaves there. -/
module

public import proofs.«01_k».proof.Defs
public import proofs.«01_k».proof.Proof.BodyKernelIdeal
public import proofs.«01_k».proof.Proof.Gen.KernelIdeal.Frame
public import proofs.«01_k».proof.Proof.Gen.KernelIdeal.Skeleton
public import Idealize.ShloMosaic.Lib.Pipeline.KitQuiescent
public import Idealize.ShloMosaic.Lib.Pipeline.Routed
public import Idealize.ShloMosaic.Lib.Ring
public import Idealize.ShloMosaic.Lib.Tactic

@[expose] public section

set_option maxRecDepth 16384

noncomputable section

namespace Cert.Proof.LaunchKernelIdeal

open Cert.KernelIdeal Cert.KernelIdeal.Gen Cert.Proof.BodyKernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-- What one run of the body may leave in the three results, from any contents of the scratch and of the results. -/
def Out (c : Dev nD) (X : Buf (Elt F) ((c : Thread nD τ).loc main_v2)) (S : Buf (Elt F) ((c : Thread nD τ).loc main_arg1))
    (W : Buf (Elt F) ((c : Thread nD τ).loc main_arg2)) (I : Buf (Elt F) ((c : Thread nD τ).loc main_v0))
    (G : Buf (Elt F) ((c : Thread nD τ).loc main_v1))
    (dx : Buf (Elt F) ((c : Thread nD τ).loc main_v3_0)) (dw : Buf (Elt F) ((c : Thread nD τ).loc main_v3_1)) (dl : Buf (Elt F) ((c : Thread nD τ).loc main_v3_2)) : Prop :=
  ∃ f0 f1 f2 f3 f4 f5 f6 f7 f8 f9 dx0 dw0 dl0, dx = (bodyRun c X S W I G f0 f1 f2 f3 f4 f5 f6 f7 f8 f9 dx0 dw0 dl0).1.1 ∧ dw = (bodyRun c X S W I G f0 f1 f2 f3 f4 f5 f6 f7 f8 f9 dx0 dw0 dl0).1.2.1 ∧ dl = (bodyRun c X S W I G f0 f1 f2 f3 f4 f5 f6 f7 f8 f9 dx0 dw0 dl0).1.2.2

theorem out_run (c : Dev nD) (X : Buf (Elt F) ((c : Thread nD τ).loc main_v2)) (S : Buf (Elt F) ((c : Thread nD τ).loc main_arg1))
    (W : Buf (Elt F) ((c : Thread nD τ).loc main_arg2)) (I : Buf (Elt F) ((c : Thread nD τ).loc main_v0))
    (G : Buf (Elt F) ((c : Thread nD τ).loc main_v1)) (f0 f1 f2 f3 f4 f5 f6 f7 f8 f9) (dx0) (dw0) (dl0) :
    Out c X S W I G (bodyRun c X S W I G f0 f1 f2 f3 f4 f5 f6 f7 f8 f9 dx0 dw0 dl0).1.1 (bodyRun c X S W I G f0 f1 f2 f3 f4 f5 f6 f7 f8 f9 dx0 dw0 dl0).1.2.1 (bodyRun c X S W I G f0 f1 f2 f3 f4 f5 f6 f7 f8 f9 dx0 dw0 dl0).1.2.2 := ⟨f0, f1, f2, f3, f4, f5, f6, f7, f8, f9, dx0, dw0, dl0, rfl, rfl, rfl⟩

/-- `Out` at the operands the region finds. -/
def OutV (c : Dev nD) (dx : Buf (Elt F) ((c : Thread nD τ).loc main_v3_0)) (dw : Buf (Elt F) ((c : Thread nD τ).loc main_v3_1)) (dl : Buf (Elt F) ((c : Thread nD τ).loc main_v3_2)) : Prop :=
  Out c (V m c main_v2) (V m c main_arg1) (V m c main_arg2) (V m c main_v0) (V m c main_v1) dx dw dl

/-- The arguments the body does not touch. -/
def restP (c : Dev nD) : sProp 𝕄 :=
  iprop(bufP c main_arg0 (V m c main_arg0) ∗ bufP c main_arg3 (V m c main_arg3) ∗ bufP c main_arg4 (V m c main_arg4))

/-- The operands and results of core `c`, the results at contents that satisfy `P`. -/
def arrP (c : Dev nD) (P : Buf (Elt F) ((c : Thread nD τ).loc main_v3_0) → Buf (Elt F) ((c : Thread nD τ).loc main_v3_1) → Buf (Elt F) ((c : Thread nD τ).loc main_v3_2) → Prop) : sProp 𝕄 :=
  iprop(∃ dx dw dl, ⌜P dx dw dl⌝ ∗ opsP c (V m c main_v2) (V m c main_arg1) (V m c main_arg2) (V m c main_v0) (V m c main_v1) dx dw dl)

/-- The region's invariant: everything whole; after the one point the results are what the body leaves. -/
def Φ (c : Dev nD) (t : Fin (cfg0.N + 1)) : sProp 𝕄 :=
  iprop(arrP m c (fun dx dw dl => 0 < t.val → OutV m c dx dw dl) ∗ restP m c ∗ scratchP c ∗ cellsP c)

def dats (_ : Fin 1) (c : Dev nD) : Dat τ (Elt F) Unit ℕ (UU nD τ) ℕ cfg0 c where
  A w := w.elim0
  after w _ := w.elim0
  Φ t := Φ m c t
  q _ := fullShare
  owed _ := 0

/-- The kernel's own semaphores. -/
abbrev osem : Fin 38 → SemLoc sig := fun k => .dma k
theorem ownSemFacts : Pipeline.OwnSemFacts cfg0.spec osem := by decide

omit [FloatOps F] in
theorem ownSems0_eq (c : Dev nD) : (Pipeline.ownSems0 (Ix := Unit) (Name := ℕ) (U := UU nD τ) (Lvl := ℕ) (Val := Elt F) (τ := τ) osem c : sProp 𝕄)
    = cellsP c := by
  exact Pipeline.ownSems0_eq_of_list c osem [(0 : Fin 38), 1, 2, 3, 4, 5, 6, 7, 8, 9, 10, 11, 12, 13, 14, 15, 16, 17, 18, 19, 20, 21, 22, 23, 24, 25, 26, 27, 28, 29, 30, 31, 32, 33, 34, 35, 36, 37] (by decide) (by decide)

/-! ## The body obligation -/

theorem defs_tc : (defs₀ (F := F)) .tc cfg0.body = fun _ => bodyG (F := F) := rfl
theorem prog_eq (t : Fin cfg0.N) : (defs₀ (F := F)) .tc cfg0.body (cfg0.bodyArgs t (cfg0.slots t)) = bodyG (F := F) :=
  (congrFun defs_tc _).trans rfl

omit [FloatOps F] in
theorem bigSep_none (P : Fin cfg0.W → sProp 𝕄) : bigSep Finset.univ P = iprop(emp) := by
  rw [show (Finset.univ : Finset (Fin cfg0.W)) = ∅ from rfl, bigSep_empty]; rfl

set_option backward.isDefEq.respectTransparency.types false in
theorem body_obligation (c : Dev nD) : BodyObligation (dats (F := F) m 0 c) (defs₀ (F := F)) 𝒱₀ () Set.univ := fun t => by
  have ht : t.val = 0 := by have := t.isLt; have h : cfg0.N = 1 := N_0; omega
  rw [bigSep_none, bigSep_none]
  dsimp only
  rw [show (dats m 0 c).Φ t.castSucc = Φ m c t.castSucc from rfl, show (dats m 0 c).Φ t.succ = Φ m c t.succ from rfl]
  unfold Dat.owesAt Pipeline.owesWithin
  rw [show (dats m 0 c).owed t.castSucc = 0 from rfl, show (dats m 0 c).owed t.succ = 0 from rfl]
  unfold Φ arrP
  iintro ⟨⟨⟨%dx, %dw, %dl, -, HO⟩, HR, ⟨⟨%f0, HB0⟩, ⟨%f1, HB1⟩, ⟨%f2, HB2⟩, ⟨%f3, HB3⟩, ⟨%f4, HB4⟩, ⟨%f5, HB5⟩, ⟨%f6, HB6⟩, ⟨%f7, HB7⟩, ⟨%f8, HB8⟩, ⟨%f9, HB9⟩⟩, HC⟩, ⟨%W, -, HW⟩, -⟩
  sl_rw [prog_eq t]
  iapply ((bodyRun c (V m c main_v2) (V m c main_arg1) (V m c main_arg2) (V m c main_v0) (V m c main_v1) f0 f1 f2 f3 f4 f5 f6 f7 f8 f9 dx dw dl).2 W _)
  isplitl [HO HB0 HB1 HB2 HB3 HB4 HB5 HB6 HB7 HB8 HB9 HC HW]
  · isplitl [HO]; · iexact HO
    isplitl [HB0 HB1 HB2 HB3 HB4 HB5 HB6 HB7 HB8 HB9]
    · isplitl [HB0]; · iexact HB0
      isplitl [HB1]; · iexact HB1
      isplitl [HB2]; · iexact HB2
      isplitl [HB3]; · iexact HB3
      isplitl [HB4]; · iexact HB4
      isplitl [HB5]; · iexact HB5
      isplitl [HB6]; · iexact HB6
      isplitl [HB7]; · iexact HB7
      isplitl [HB8]; · iexact HB8
      iexact HB9
    isplitl [HC]; · iexact HC
    iexact HW
  · iintro ⟨HO, HS, HC, ⟨%W', HW⟩⟩
    isplitl [HO HR HS HC]
    · isplitl [HO]
      · iexists (bodyRun c (V m c main_v2) (V m c main_arg1) (V m c main_arg2) (V m c main_v0) (V m c main_v1) f0 f1 f2 f3 f4 f5 f6 f7 f8 f9 dx dw dl).1.1
        iexists (bodyRun c (V m c main_v2) (V m c main_arg1) (V m c main_arg2) (V m c main_v0) (V m c main_v1) f0 f1 f2 f3 f4 f5 f6 f7 f8 f9 dx dw dl).1.2.1
        iexists (bodyRun c (V m c main_v2) (V m c main_arg1) (V m c main_arg2) (V m c main_v0) (V m c main_v1) f0 f1 f2 f3 f4 f5 f6 f7 f8 f9 dx dw dl).1.2.2
        isplitr
        · ipureintro; intro _; exact out_run c _ _ _ _ _ f0 f1 f2 f3 f4 f5 f6 f7 f8 f9 dx dw dl
        iexact HO
      isplitl [HR]; · iexact HR
      isplitl [HS]; · iexact HS
      iexact HC
    isplitl [HW]
    · iexists W'; isplitr; · ipureintro; exact fun _ _ => Or.inl trivial
      iexact HW
    iempintro

/-! ## The run -/

def u₀ : UU nD τ := (initOf (Pipeline.cells cfgs cellOf_inj) (Pipeline.launchToks cfgs cellOf_inj), 1)

/-- What a final state satisfies on core `c`: the arguments as launched, the results what the body leaves. -/
def QY (c : Dev nD) (s : MemSt nD τ sig (Elt F)) : Prop :=
  (∃ dx dw dl, OutV m c dx dw dl ∧ s.mem ((c : Thread nD τ).loc main_v3_0) = dx ∧ s.mem ((c : Thread nD τ).loc main_v3_1) = dw ∧ s.mem ((c : Thread nD τ).loc main_v3_2) = dl)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

set_option backward.isDefEq.respectTransparency.types false in
/-- For any float values, from any memory with zero counters: every weakly fair execution of @main on the TensorCores
    terminates, and every final state has the arguments unchanged, the results at what the body leaves, every
    semaphore counter at zero. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts embL defs₀ 𝒱₀ m ρ main
    (hbody := fun c => (body_obligation m c).loose) (hshare := fun c w => w.elim0)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := fun c => iprop(arrP m c (fun _ _ _ => True) ∗ restP m c ∗ cellsP c))
    (Y := fun c => iprop(arrP m c (OutV m c) ∗ restP m c)) (Z := fun _ => iprop(emp))
    (hX := fun c => by
      rw [unscopedRest0_eq, ownSems0_eq]
      unfold arrP restP
      iintro ⟨⟨H_main_arg0, H_main_arg1, H_main_arg2, H_main_arg3, H_main_arg4, H_main_v0, H_main_v1, H_main_v2, H_main_v3_0, H_main_v3_1, H_main_v3_2⟩, HC, -⟩; imodintro
      isplitl [HC H_main_arg0 H_main_arg1 H_main_arg2 H_main_arg3 H_main_arg4 H_main_v0 H_main_v1 H_main_v2 H_main_v3_0 H_main_v3_1 H_main_v3_2]
      · isplitl [H_main_v2 H_main_arg1 H_main_arg2 H_main_v0 H_main_v1 H_main_v3_0 H_main_v3_1 H_main_v3_2]
        · iexists (V m c main_v3_0), (V m c main_v3_1), (V m c main_v3_2); isplitr; · ipureintro; trivial
          isplitl [H_main_v2]; · iexact H_main_v2
          isplitl [H_main_arg1]; · iexact H_main_arg1
          isplitl [H_main_arg2]; · iexact H_main_arg2
          isplitl [H_main_v0]; · iexact H_main_v0
          isplitl [H_main_v1]; · iexact H_main_v1
          isplitl [H_main_v3_0]; · iexact H_main_v3_0
          isplitl [H_main_v3_1]; · iexact H_main_v3_1
          iexact H_main_v3_2
        isplitl [H_main_arg0 H_main_arg3 H_main_arg4]
        · isplitl [H_main_arg0]; · iexact H_main_arg0
          isplitl [H_main_arg3]; · iexact H_main_arg3
          iexact H_main_arg4
        iexact HC
      iempintro)
    (hin := fun c => by
      rw [scopedRest0_eq, show (dats m 0 c).Φ 0 = Φ m c 0 from rfl]
      unfold Φ arrP
      iintro ⟨⟨⟨%dx, %dw, %dl, -, HO⟩, HR, HC⟩, HS⟩
      isplitl [HO]
      · iexists dx, dw, dl; isplitr; · ipureintro; exact fun h => absurd h (lt_irrefl 0)
        iexact HO
      isplitl [HR]; · iexact HR
      isplitl [HS]; · iexact HS
      iexact HC)
    (hout := fun c => by
      rw [scopedRest0_eq, show (dats m 0 c).Φ (Fin.last cfg0.N) = Φ m c (Fin.last cfg0.N) from rfl, ownSems0_eq]
      unfold Φ arrP
      iintro ⟨⟨%dx, %dw, %dl, %ho, HO⟩, HR, HS, HC⟩
      isplitl [HO HR]
      · isplitl [HO]
        · iexists dx, dw, dl; isplitr
          · ipureintro; exact ho (by have h : cfg0.N = 1 := N_0; simp [Fin.last, h])
          iexact HO
        iexact HR
      isplitl [HC]; · iexact HC
      iexact HS)
    (QY := QY m)
    (hY := fun c s' => by
      unfold arrP restP
      iintro ⟨⟨⟨%dx, %dw, %dl, %ho, ⟨H_main_v2, H_main_arg1, H_main_arg2, H_main_v0, H_main_v1, H_main_v3_0, H_main_v3_1, H_main_v3_2⟩⟩, ⟨H_main_arg0, H_main_arg3, H_main_arg4⟩⟩, -, HSI⟩
      icombine HSI H_main_v3_0 gives %e_main_v3_0
      icombine HSI H_main_v3_1 gives %e_main_v3_1
      icombine HSI H_main_v3_2 gives %e_main_v3_2
      icombine HSI H_main_arg0 gives %e_main_arg0
      icombine HSI H_main_arg1 gives %e_main_arg1
      icombine HSI H_main_arg2 gives %e_main_arg2
      icombine HSI H_main_arg3 gives %e_main_arg3
      icombine HSI H_main_arg4 gives %e_main_arg4
      imodintro
      isplitr
      · ipureintro
        exact ⟨⟨dx, dw, dl, ho, Buf.eq_of_forall_mem_univ e_main_v3_0, Buf.eq_of_forall_mem_univ e_main_v3_1, Buf.eq_of_forall_mem_univ e_main_v3_2⟩,
          (Buf.eq_of_forall_mem_univ e_main_arg0).trans (V_main_arg0 m c), (Buf.eq_of_forall_mem_univ e_main_arg1).trans (V_main_arg1 m c),
          (Buf.eq_of_forall_mem_univ e_main_arg2).trans (V_main_arg2 m c), (Buf.eq_of_forall_mem_univ e_main_arg3).trans (V_main_arg3 m c),
          (Buf.eq_of_forall_mem_univ e_main_arg4).trans (V_main_arg4 m c)⟩
      iexact HSI)
    (hQ := fun _ hh hz => ⟨fun c => (hh c).2, hz⟩)

/-- `Cert.quiescent_KernelIdeal` (Defs.lean). -/
theorem frame : Cert.quiescent_KernelIdeal := fun m ρ _ =>
  (θ_run defs _ _).mono (fun _ hh => ⟨fun c => (hh.1 c).2, hh.2⟩) (run_main (F := Ideal) m ρ)

end Cert.Proof.LaunchKernelIdeal

end
-- ==== Proof.Spec.lean ====
module
public import Idealize.ShloMosaic.Lib.Pointwise
@[expose] public section
noncomputable section

/-!
# The three results as plain mathematics

Over the extended reals: `x` the token rows, `s` one scale per token, `w` the router weights, `i` and `g` the two
chosen experts of each token and the gradients arriving at their probabilities. The router's logits are
`(x w) · s`, their softmax is taken over the 128 experts, and the gradients of the logits, of the token rows and of the
weights follow.
-/

namespace Cert.Proof.Spec
open Idealize.ShloMosaic

/-- The value every row maximum starts from. -/
def lowest : EReal := Ideal.ofBits FTy.f32 0xFF800000#32

variable (x : Fin 2048 → Fin 5120 → EReal) (s : Fin 2048 → EReal) (w : Fin 5120 → Fin 128 → EReal)
  (i : Fin 2048 → Fin 2 → BitVec 32) (g : Fin 2048 → Fin 2 → EReal)

/-- The logit of token `t` for expert `e`. -/
def logit (t : Fin 2048) (e : Fin 128) : EReal := (∑ k, x t k * w k e) * s t

/-- The largest logit of a token. -/
def top (t : Fin 2048) : EReal := Finset.univ.fold max lowest fun e => logit x s w t e

/-- The exponential of a logit less the token's largest. -/
def expo (t : Fin 2048) (e : Fin 128) : EReal := Ideal.exp (logit x s w t e - top x s w t)

/-- The softmax of a token's logits. -/
def prob (t : Fin 2048) (e : Fin 128) : EReal := Ideal.div (expo x s w t e) (∑ e', expo x s w t e')

/-- The part of the probabilities' gradient that choice `k` of token `t` gives to expert `e`. -/
def hit (t : Fin 2048) (k : Fin 2) (e : Fin 128) : EReal :=
  Scalar.select (IntOp.cmpi CmpIPredicate.eq (i t k) (BitVec.ofNat 32 e)) (g t k) 0

/-- The gradient of a token's probabilities. -/
def dprob (t : Fin 2048) (e : Fin 128) : EReal := ∑ k, hit i g t k e

/-- The gradient of a token's logits. -/
def dl (t : Fin 2048) (e : Fin 128) : EReal :=
  prob x s w t e * (dprob i g t e - ∑ e', prob x s w t e' * dprob i g t e')

/-- The gradient of the token rows. -/
def dx (t : Fin 2048) (k : Fin 5120) : EReal := ∑ e, dl x s w i g t e * w k e

/-- The gradient of the weights. -/
def dw (k : Fin 5120) (e : Fin 128) : EReal := ∑ t, x t k * (dl x s w i g t e * s t)

end Cert.Proof.Spec
-- ==== Proof.RefValue.lean ====
module
public import proofs.«01_k».proof.Proof.Gen.ReferenceIdeal.Value
public import proofs.«01_k».proof.Proof.Spec
public import Idealize.ShloMosaic.Lib.VecWindow
public import Idealize.ShloMosaic.Lib.Pipeline.ValueKit
@[expose] public section
set_option maxRecDepth 16384
noncomputable section

/-!
# The reference's three results are the specification's

The reference has one grid point, every window its whole array: what it stores is read element by element.
-/

namespace Cert.Proof.RefValue
open Idealize.ShloMosaic Idealize.ShloMosaic.TcCoe
open Cert.ReferenceIdeal Cert.ReferenceIdeal.Gen

def xOf (x : Vec Ideal S2048x5120 .fp8e4m3) (t : Fin 2048) (k : Fin 5120) : EReal := x (ix2 t k)
def sOf (s : Vec Ideal S2048x1 .f32) (t : Fin 2048) : EReal := s (ix2 t 0)
def wOf (w : Vec Ideal S5120x128 .bf16) (k : Fin 5120) (e : Fin 128) : EReal := w (ix2 k e)
def iOf (i : Vec Ideal S2048x2 .i32) (t : Fin 2048) (k : Fin 2) : BitVec 32 := i (ix2 t k)
def gOf (g : Vec Ideal S2048x2 .bf16) (t : Fin 2048) (k : Fin 2) : EReal := g (ix2 t k)

section Payloads
variable (x : Vec Ideal S2048x5120 .fp8e4m3) (s : Vec Ideal S2048x1 .f32) (w : Vec Ideal S5120x128 .bf16)
  (i : Vec Ideal S2048x2 .i32) (g : Vec Ideal S2048x2 .bf16)

/-- A maximum already started from a value does not change when that value is taken in once more. -/
theorem max_fold (b : EReal) (f : Fin 128 → EReal) :
    max b (Finset.fold max b f Finset.univ) = Finset.fold max b f Finset.univ :=
  max_eq_right ((Finset.le_fold_max b).mpr (Or.inl le_rfl))

/-- The logits' gradient as the reference stores it. -/
theorem dl_apply (t : Fin 2048) (e : Fin 128) :
    k0_pay5 x s w i g (ix2 t e) = Spec.dl (xOf x) (sOf s) (wOf w) (iOf i) (gOf g) t e := by
  pointwise [k0_pay5, k0_pay3, k0_pay4]
  simp only [max_fold]
  rfl

/-- The token rows' gradient. -/
theorem dx_apply (t : Fin 2048) (k : Fin 5120) :
    k0_pay1 w (k0_pay6 x s w i g) (ix2 t k) = Spec.dx (xOf x) (sOf s) (wOf w) (iOf i) (gOf g) t k := by
  pointwise [k0_pay1, k0_pay6]
  simp only [dl_apply]
  rfl

/-- The weights' gradient. -/
theorem dw_apply (k : Fin 5120) (e : Fin 128) :
    k0_pay2 (k0_pay3 x) (k0_pay4 s) (k0_pay6 x s w i g) (ix2 k e)
      = Spec.dw (xOf x) (sOf s) (wOf w) (iOf i) (gOf g) k e := by
  pointwise [k0_pay2, k0_pay3, k0_pay4, k0_pay6]
  simp only [dl_apply]
  refine Finset.sum_congr rfl fun t _ => ?_
  rw [mul_assoc]
  exact congrArg (x (ix2 t k) * ·) (mul_comm (s (ix2 t 0)) _)

/-- The three as whole arrays. -/
def specDx : Vec Ideal S2048x5120 .bf16 := fun y => Spec.dx (xOf x) (sOf s) (wOf w) (iOf i) (gOf g) (y 0) (y 1)
def specDw : Vec Ideal S5120x128 .f32 := fun y => Spec.dw (xOf x) (sOf s) (wOf w) (iOf i) (gOf g) (y 0) (y 1)
def specDl : Vec Ideal S2048x128 .f32 := fun y => Spec.dl (xOf x) (sOf s) (wOf w) (iOf i) (gOf g) (y 0) (y 1)

/-- A load of a whole array reads the array. -/
theorem ld_whole {S : Shape} {e : EltTy} (v : Vec Ideal S e) {off : Fin S.rank → ℕ} (h : ∀ a, off a = 0)
    (inb : ∀ a, off a + S.size a ≤ S.size a) : View.ld v (Rect.unit off S.size inb) = v :=
  funext fun j => congrArg v (Rect.emb_unit_full inb j)

theorem ld0 {e : EltTy} (v : Vec Ideal S2048x5120 e) : View.ld v r0_0 = v := ld_whole v (by decide) _
theorem ld1 {e : EltTy} (v : Vec Ideal S2048x1 e) : View.ld v r0_1 = v := ld_whole v (by decide) _
theorem ld2 {e : EltTy} (v : Vec Ideal S5120x128 e) : View.ld v r0_2 = v := ld_whole v (by decide) _
theorem ld3 {e : EltTy} (v : Vec Ideal S2048x2 e) : View.ld v r0_3 = v := ld_whole v (by decide) _

theorem out5_eq : out0_5 x s w i g = specDx x s w i g := by
  unfold out0_5 k0_pay7
  rw [View.canon_cons_unit_lit _ _ _ (by decide)]
  rw [ld0, ld1, ld2, ld3, ld3]
  funext y
  obtain ⟨a, b, rfl⟩ : ∃ (a : Fin 2048) (b : Fin 5120), y = ix2 a b := ⟨y 0, y 1, eq_ix2 y⟩
  exact dx_apply x s w i g a b

theorem out6_eq : out0_6 x s w i g = specDw x s w i g := by
  unfold out0_6 k0_pay7
  rw [View.canon_cons_unit_lit _ _ _ (by decide)]
  rw [ld0, ld1, ld2, ld3, ld3]
  funext y
  obtain ⟨a, b, rfl⟩ : ∃ (a : Fin 5120) (b : Fin 128), y = ix2 a b := ⟨y 0, y 1, eq_ix2 y⟩
  exact dw_apply x s w i g a b

theorem out7_eq : out0_7 x s w i g = specDl x s w i g := by
  unfold out0_7
  rw [View.canon_cons_unit_lit _ _ _ (by decide)]
  rw [ld0, ld1, ld2, ld3, ld3]
  funext y
  obtain ⟨a, b, rfl⟩ : ∃ (a : Fin 2048) (b : Fin 128), y = ix2 a b := ⟨y 0, y 1, eq_ix2 y⟩
  exact dl_apply x s w i g a b

end Payloads

section Run
variable (m : (ℓ : Loc nD τ sig) → Buf (Elt Ideal) ℓ) (c : Dev nD)

theorem idx_zero0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

theorem emb0 (t : Fin cfg0.N) (j : S2048x5120.Idx) : ((cfg0.win 0).blk t).view.emb j = j := by
  obtain ⟨e0, e1⟩ := idx_zero0 t
  funext a; apply Fin.ext
  match a with
  | ⟨0, _⟩ => show win0_0.index t (0 : Fin 2) * 2048 + 1 * (j 0).val = (j 0).val; omega
  | ⟨1, _⟩ => show win0_0.index t (1 : Fin 2) * 5120 + 1 * (j 1).val = (j 1).val; omega

theorem iblk0_eq (t : Fin cfg0.N) : iblk m c 0 t = V m c main_v0 := by
  funext j; show V m c main_v0 (((cfg0.win 0).blk t).view.emb j) = V m c main_v0 j; rw [emb0]

theorem idx_zero1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem emb1 (t : Fin cfg0.N) (j : S2048x1.Idx) : ((cfg0.win 1).blk t).view.emb j = j := by
  obtain ⟨e0, e1⟩ := idx_zero1 t
  funext a; apply Fin.ext
  match a with
  | ⟨0, _⟩ => show win0_1.index t (0 : Fin 2) * 2048 + 1 * (j 0).val = (j 0).val; omega
  | ⟨1, _⟩ => show win0_1.index t (1 : Fin 2) * 1 + 1 * (j 1).val = (j 1).val; omega

theorem iblk1_eq (t : Fin cfg0.N) : iblk m c 1 t = V m c main_v1 := by
  funext j; show V m c main_v1 (((cfg0.win 1).blk t).view.emb j) = V m c main_v1 j; rw [emb1]

theorem idx_zero2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem emb2 (t : Fin cfg0.N) (j : S5120x128.Idx) : ((cfg0.win 2).blk t).view.emb j = j := by
  obtain ⟨e0, e1⟩ := idx_zero2 t
  funext a; apply Fin.ext
  match a with
  | ⟨0, _⟩ => show win0_2.index t (0 : Fin 2) * 5120 + 1 * (j 0).val = (j 0).val; omega
  | ⟨1, _⟩ => show win0_2.index t (1 : Fin 2) * 128 + 1 * (j 1).val = (j 1).val; omega

theorem iblk2_eq (t : Fin cfg0.N) : iblk m c 2 t = V m c main_arg2 := by
  funext j; show V m c main_arg2 (((cfg0.win 2).blk t).view.emb j) = V m c main_arg2 j; rw [emb2]

theorem idx_zero3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem emb3 (t : Fin cfg0.N) (j : S2048x2.Idx) : ((cfg0.win 3).blk t).view.emb j = j := by
  obtain ⟨e0, e1⟩ := idx_zero3 t
  funext a; apply Fin.ext
  match a with
  | ⟨0, _⟩ => show win0_3.index t (0 : Fin 2) * 2048 + 1 * (j 0).val = (j 0).val; omega
  | ⟨1, _⟩ => show win0_3.index t (1 : Fin 2) * 2 + 1 * (j 1).val = (j 1).val; omega

theorem iblk3_eq (t : Fin cfg0.N) : iblk m c 3 t = V m c main_v2 := by
  funext j; show V m c main_v2 (((cfg0.win 3).blk t).view.emb j) = V m c main_v2 j; rw [emb3]

theorem idx_zero4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem emb4 (t : Fin cfg0.N) (j : S2048x2.Idx) : ((cfg0.win 4).blk t).view.emb j = j := by
  obtain ⟨e0, e1⟩ := idx_zero4 t
  funext a; apply Fin.ext
  match a with
  | ⟨0, _⟩ => show win0_4.index t (0 : Fin 2) * 2048 + 1 * (j 0).val = (j 0).val; omega
  | ⟨1, _⟩ => show win0_4.index t (1 : Fin 2) * 2 + 1 * (j 1).val = (j 1).val; omega

theorem iblk4_eq (t : Fin cfg0.N) : iblk m c 4 t = V m c main_v3 := by
  funext j; show V m c main_v3 (((cfg0.win 4).blk t).view.emb j) = V m c main_v3 j; rw [emb4]

theorem idx_zero5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem emb5 (t : Fin cfg0.N) (j : S2048x5120.Idx) : ((cfg0.win 5).blk t).view.emb j = j := by
  obtain ⟨e0, e1⟩ := idx_zero5 t
  funext a; apply Fin.ext
  match a with
  | ⟨0, _⟩ => show win0_5.index t (0 : Fin 2) * 2048 + 1 * (j 0).val = (j 0).val; omega
  | ⟨1, _⟩ => show win0_5.index t (1 : Fin 2) * 5120 + 1 * (j 1).val = (j 1).val; omega

theorem cut5_eq (t : Fin cfg0.N) (Y : Vec Ideal S2048x5120 .bf16) :
    (cfg0.win 5).cut (grid0.coords t) Y = ((cfg0.win 5).blk t).view.read (Elt Ideal) Y := by
  funext j
  show Y j = Y (((cfg0.win 5).blk t).view.emb j)
  rw [emb5]

theorem flushed5_eq (t : Fin cfg0.N) : (dats m 0 c).flushed 5 t
    = ((cfg0.win 5).blk t).view.read (Elt Ideal) (specDx (V m c main_v0) (V m c main_v1) (V m c main_arg2) (V m c main_v2) (V m c main_v3)) := by
  rw [Cert.ReferenceIdeal.Value.flushed5, iblk0_eq, iblk1_eq, iblk2_eq, iblk3_eq, iblk4_eq, out5_eq]
  exact cut5_eq t _

theorem covered5 (j : S2048x5120.Idx) : ∃ t : Fin cfg0.N, (cfg0.win 5).flush t = true ∧ j ∈ ((cfg0.win 5).blk t).view.set :=
  ⟨(⟨0, by decide⟩ : Fin cfg0.N), by decide, by
    have h := ((cfg0.win 5).blk (⟨0, by decide⟩ : Fin cfg0.N)).view.emb_mem_set j; rwa [emb5] at h⟩

/-- The array the reference leaves, from its operands. -/
theorem final5 : (dats m 0 c).arrAt 5 cfg0.N = specDx (V m c main_v0) (V m c main_v1) (V m c main_arg2) (V m c main_v2) (V m c main_v3) :=
  (dats m 0 c).arrAt_eq_of_cover 5 (specDx (V m c main_v0) (V m c main_v1) (V m c main_arg2) (V m c main_v2) (V m c main_v3)) (fun t _ => flushed5_eq m c t) covered5

theorem idx_zero6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem emb6 (t : Fin cfg0.N) (j : S5120x128.Idx) : ((cfg0.win 6).blk t).view.emb j = j := by
  obtain ⟨e0, e1⟩ := idx_zero6 t
  funext a; apply Fin.ext
  match a with
  | ⟨0, _⟩ => show win0_6.index t (0 : Fin 2) * 5120 + 1 * (j 0).val = (j 0).val; omega
  | ⟨1, _⟩ => show win0_6.index t (1 : Fin 2) * 128 + 1 * (j 1).val = (j 1).val; omega

theorem cut6_eq (t : Fin cfg0.N) (Y : Vec Ideal S5120x128 .f32) :
    (cfg0.win 6).cut (grid0.coords t) Y = ((cfg0.win 6).blk t).view.read (Elt Ideal) Y := by
  funext j
  show Y j = Y (((cfg0.win 6).blk t).view.emb j)
  rw [emb6]

theorem flushed6_eq (t : Fin cfg0.N) : (dats m 0 c).flushed 6 t
    = ((cfg0.win 6).blk t).view.read (Elt Ideal) (specDw (V m c main_v0) (V m c main_v1) (V m c main_arg2) (V m c main_v2) (V m c main_v3)) := by
  rw [Cert.ReferenceIdeal.Value.flushed6, iblk0_eq, iblk1_eq, iblk2_eq, iblk3_eq, iblk4_eq, out6_eq]
  exact cut6_eq t _

theorem covered6 (j : S5120x128.Idx) : ∃ t : Fin cfg0.N, (cfg0.win 6).flush t = true ∧ j ∈ ((cfg0.win 6).blk t).view.set :=
  ⟨(⟨0, by decide⟩ : Fin cfg0.N), by decide, by
    have h := ((cfg0.win 6).blk (⟨0, by decide⟩ : Fin cfg0.N)).view.emb_mem_set j; rwa [emb6] at h⟩

/-- The array the reference leaves, from its operands. -/
theorem final6 : (dats m 0 c).arrAt 6 cfg0.N = specDw (V m c main_v0) (V m c main_v1) (V m c main_arg2) (V m c main_v2) (V m c main_v3) :=
  (dats m 0 c).arrAt_eq_of_cover 6 (specDw (V m c main_v0) (V m c main_v1) (V m c main_arg2) (V m c main_v2) (V m c main_v3)) (fun t _ => flushed6_eq m c t) covered6

theorem idx_zero7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

theorem emb7 (t : Fin cfg0.N) (j : S2048x128.Idx) : ((cfg0.win 7).blk t).view.emb j = j := by
  obtain ⟨e0, e1⟩ := idx_zero7 t
  funext a; apply Fin.ext
  match a with
  | ⟨0, _⟩ => show win0_7.index t (0 : Fin 2) * 2048 + 1 * (j 0).val = (j 0).val; omega
  | ⟨1, _⟩ => show win0_7.index t (1 : Fin 2) * 128 + 1 * (j 1).val = (j 1).val; omega

theorem cut7_eq (t : Fin cfg0.N) (Y : Vec Ideal S2048x128 .f32) :
    (cfg0.win 7).cut (grid0.coords t) Y = ((cfg0.win 7).blk t).view.read (Elt Ideal) Y := by
  funext j
  show Y j = Y (((cfg0.win 7).blk t).view.emb j)
  rw [emb7]

theorem flushed7_eq (t : Fin cfg0.N) : (dats m 0 c).flushed 7 t
    = ((cfg0.win 7).blk t).view.read (Elt Ideal) (specDl (V m c main_v0) (V m c main_v1) (V m c main_arg2) (V m c main_v2) (V m c main_v3)) := by
  rw [Cert.ReferenceIdeal.Value.flushed7, iblk0_eq, iblk1_eq, iblk2_eq, iblk3_eq, iblk4_eq, out7_eq]
  exact cut7_eq t _

theorem covered7 (j : S2048x128.Idx) : ∃ t : Fin cfg0.N, (cfg0.win 7).flush t = true ∧ j ∈ ((cfg0.win 7).blk t).view.set :=
  ⟨(⟨0, by decide⟩ : Fin cfg0.N), by decide, by
    have h := ((cfg0.win 7).blk (⟨0, by decide⟩ : Fin cfg0.N)).view.emb_mem_set j; rwa [emb7] at h⟩

/-- The array the reference leaves, from its operands. -/
theorem final7 : (dats m 0 c).arrAt 7 cfg0.N = specDl (V m c main_v0) (V m c main_v1) (V m c main_arg2) (V m c main_v2) (V m c main_v3) :=
  (dats m 0 c).arrAt_eq_of_cover 7 (specDl (V m c main_v0) (V m c main_v1) (V m c main_arg2) (V m c main_v2) (V m c main_v3)) (fun t _ => flushed7_eq m c t) covered7

end Run
end Cert.Proof.RefValue
-- ==== Proof.Block.lean ====
module
public import proofs.«01_k».proof.Proof.Gen.KernelIdeal.Skeleton
public import proofs.«01_k».proof.Proof.Spec
@[expose] public section
set_option maxRecDepth 16384
noncomputable section

/-!
# One block of 256 tokens, as the kernel computes it

The kernel holds the logits' gradient of a block as experts by tokens. `dlT` is that computation from the block's loads;
the three stores of a block and the store of 512 rows of the weights' gradient are given element by element.
-/

namespace Cert.Proof.Block
open Idealize.ShloMosaic
open Cert.KernelIdeal Cert.KernelIdeal.Gen

/-- The logits' gradient of a block, experts by tokens. -/
def dlT (wt : Vec Ideal S128x5120 .bf16) (xb : Vec Ideal S256x5120 .fp8e4m3) (sb : Vec Ideal S1x256 .f32)
    (i0 : Vec Ideal S1x1x256 .i32) (g0 : Vec Ideal S1x1x256 .bf16) (i1 : Vec Ideal S1x1x256 .i32)
    (g1 : Vec Ideal S1x1x256 .bf16) : FVec Ideal S128x256 .f32 :=
  k0_pay5 (k0_pay3 wt xb sb) (iota .tc S128x256 32 [0] iota_S128x256_d0_w32) k0_pay4 i0 g0 i1 g1

/-- What the block stores of the logits' gradient. -/
def dlOut (d : FVec Ideal S128x256 .f32) : FVec Ideal S256x128 .f32 := k0_pay17 d

/-- What the block stores of the token rows' gradient. -/
def dxOut (d : FVec Ideal S128x256 .f32) (wt : Vec Ideal S128x5120 .bf16) : FVec Ideal S256x5120 .bf16 := k0_pay18 d wt

/-- What the block keeps for the weights' gradient. -/
def dsOut (d : FVec Ideal S128x256 .f32) (sb : Vec Ideal S1x256 .f32) : FVec Ideal S128x256 .bf16 := k0_pay57 sb d

section Values
variable (x : Fin 2048 → Fin 5120 → EReal) (s : Fin 2048 → EReal) (w : Fin 5120 → Fin 128 → EReal)
  (i : Fin 2048 → Fin 2 → BitVec 32) (g : Fin 2048 → Fin 2 → EReal) (t : Fin 256 → Fin 2048)
  (wt : Vec Ideal S128x5120 .bf16) (xb : Vec Ideal S256x5120 .fp8e4m3) (sb : Vec Ideal S1x256 .f32)
  (i0 : Vec Ideal S1x1x256 .i32) (g0 : Vec Ideal S1x1x256 .bf16) (i1 : Vec Ideal S1x1x256 .i32)
  (g1 : Vec Ideal S1x1x256 .bf16)

/-- The block's softmax. -/
theorem prob_apply (hx : ∀ r k, xb (ix2 r k) = x (t r) k) (hs : ∀ r, sb (ix2 0 r) = s (t r))
    (hw : ∀ e k, wt (ix2 e k) = w k e) (e : Fin 128) (r : Fin 256) :
    k0_pay3 wt xb sb (ix2 e r) = Spec.prob x s w (t r) e := by
  pointwise [k0_pay3]
  simp only [hx, hs, hw, mul_comm (w _ _)]
  rfl

/-- The block's gradient of the logits is the specification's. -/
theorem dlT_apply (hx : ∀ r k, xb (ix2 r k) = x (t r) k) (hs : ∀ r, sb (ix2 0 r) = s (t r))
    (hw : ∀ e k, wt (ix2 e k) = w k e) (hi0 : ∀ r, i0 (ix3 0 0 r) = i (t r) 0) (hi1 : ∀ r, i1 (ix3 0 0 r) = i (t r) 1)
    (hg0 : ∀ r, g0 (ix3 0 0 r) = g (t r) 0) (hg1 : ∀ r, g1 (ix3 0 0 r) = g (t r) 1) (e : Fin 128) (r : Fin 256) :
    dlT wt xb sb i0 g0 i1 g1 (ix2 e r) = Spec.dl x s w i g (t r) e := by
  pointwise [dlT, k0_pay5, k0_pay4]
  simp only [prob_apply x s w t wt xb sb hx hs hw, hi0, hi1, hg0, hg1]
  simp only [Spec.dl, Spec.dprob, Fin.sum_univ_two, Spec.hit]

end Values

/-- The stored gradient of the logits is the transposed one. -/
theorem dlOut_apply (d : FVec Ideal S128x256 .f32) (r : Fin 256) (e : Fin 128) : dlOut d (ix2 r e) = d (ix2 e r) := by
  pointwise [dlOut, k0_pay17, k0_pay16]

/-- The stored gradient of the token rows is the product with the weights. -/
theorem dxOut_apply (d : FVec Ideal S128x256 .f32) (wt : Vec Ideal S128x5120 .bf16) (r : Fin 256) (k : Fin 5120) :
    dxOut d wt (ix2 r k) = ∑ e, d (ix2 e r) * wt (ix2 e k) := by
  pointwise [dxOut, k0_pay18, k0_pay16]

/-- What is kept for the weights' gradient is the logits' gradient times the scale. -/
theorem dsOut_apply (d : FVec Ideal S128x256 .f32) (sb : Vec Ideal S1x256 .f32) (e : Fin 128) (r : Fin 256) :
    dsOut d sb (ix2 e r) = d (ix2 e r) * sb (ix2 0 r) := by
  pointwise [dsOut, k0_pay57]

/-- The stored gradient of 512 rows of the weights sums over all tokens. -/
theorem dwOut_apply (d : Vec Ideal S128x2048 .bf16) (xb : Vec Ideal S2048x512 .fp8e4m3) (k : Fin 512) (e : Fin 128) :
    k0_pay70 d xb (ix2 k e) = ∑ t, xb (ix2 t k) * d (ix2 e t) := by
  pointwise [k0_pay70]
  exact Finset.sum_congr rfl fun _ _ => mul_comm _ _

end Cert.Proof.Block
-- ==== Proof.Loads.lean ====
module
public import proofs.«01_k».proof.Proof.BodyKernelIdeal
public import proofs.«01_k».proof.Proof.Block
@[expose] public section
set_option maxRecDepth 16384
noncomputable section

/-!
# What the kernel's loads and stores hold

A buffer written piece by piece, every piece agreeing with one function of the whole buffer, reads that function wherever
a piece covers it. The loads of a block of 256 tokens are the operands at the block's rectangle, so the block's gradient
of the logits is the specification's at the block's tokens.
-/

namespace Cert.Proof.Loads
open Idealize.ShloMosaic
open Cert.KernelIdeal Cert.KernelIdeal.Gen

section Pieces
variable {sig : RefSig} {κ : Kind} {sp : Space} {s : Shape} {e : EltTy} {Val : EltTy → Type}

/-- Every piece of the list holds `G` at its own rectangle. -/
def Good (G : s.Idx → Val e) (L : List (View.Piece Val s e)) : Prop :=
  ∀ p ∈ L, ∀ x : p.1.shape.Idx, p.2 x = G (p.1.emb x)

theorem good_nil (G : s.Idx → Val e) : Good G ([] : List (View.Piece Val s e)) := fun _ h => absurd h List.not_mem_nil

theorem good_cons {G : s.Idx → Val e} {r : Rect s} {w : r.shape.Idx → Val e} {L : List (View.Piece Val s e)}
    (h : ∀ x : r.shape.Idx, w x = G (r.emb x)) (hL : Good G L) : Good G ((⟨r, w⟩ : View.Piece Val s e) :: L) := by
  intro p hp
  rcases List.mem_cons.mp hp with rfl | hp
  · exact h
  · exact hL p hp

/-- A covered load of good pieces. -/
theorem readCov_good [∀ e, Nonempty (Val e)] (v : View sig κ sp s e) {G : s.Idx → Val e} {L : List (View.Piece Val s e)}
    (hL : Good G L) (hc : ∀ y : s.Idx, ∃ p ∈ L, y ∈ p.1.set) (B : LoadRect s) :
    v.readCov L B = fun j => G (B.idx j) :=
  funext fun j => View.read_writes_apply_of_pieces v v.junk G L hL (B.idx j) (hc _)

/-- The whole buffer after good pieces that cover it. -/
theorem writes_good (v : View sig κ sp s e) (f : v.ty.Contents Val) {G : s.Idx → Val e} {L : List (View.Piece Val s e)}
    (hL : Good G L) (hc : ∀ y : s.Idx, ∃ p ∈ L, y ∈ p.1.set) : v.read Val (v.writes Val f L) = G :=
  funext fun y => View.read_writes_apply_of_pieces v f G L hL y (hc y)

/-- A whole buffer's contents after good pieces that cover it. -/
theorem whole_good (b : Ref sig κ) (f : b.ty.Contents Val) {G : b.ty.shape.Idx → Val b.ty.elt}
    {L : List (View.Piece Val b.ty.shape b.ty.elt)} (hL : Good G L) (hc : ∀ y : b.ty.shape.Idx, ∃ p ∈ L, y ∈ p.1.set) :
    (View.whole b).writes Val f L = G :=
  writes_good (View.whole b) f hL hc

/-- A slice read where the newest of good pieces was written. -/
theorem slice_good (v : View sig κ sp s e) (f : v.ty.Contents Val) {G : s.Idx → Val e} {r : Rect s}
    {w : r.shape.Idx → Val e} {L : List (View.Piece Val s e)} (hL : Good G ((⟨r, w⟩ : View.Piece Val s e) :: L))
    (x : r.shape.Idx) :
    v.read Val (v.writes Val f ((⟨r, w⟩ : View.Piece Val s e) :: L)) (r.emb x) = G (r.emb x) := by
  rw [View.read_writes_cons_emb]; exact hL ⟨r, w⟩ List.mem_cons_self x

/-- A load of a buffer filled whole. -/
theorem readAt_fill (v : View sig κ sp s e) (f : v.ty.Contents Val) (w : s.Idx → Val e) (B : LoadRect s) :
    v.readAt Val B (v.write Val f w Finset.univ) = fun j => w (B.idx j) := by
  funext j; rw [View.readAt_apply, View.read_write_univ]

end Pieces

/-! ## The operands as the specification names them -/

def xOf (X : Vec Ideal S2048x5120 .fp8e4m3) (t : Fin 2048) (k : Fin 5120) : EReal := X (ix2 t k)
def sOf (S : Vec Ideal S4x512 .f32) (t : Fin 2048) : EReal :=
  S (ix2 (⟨t.val / 512, by omega⟩ : Fin 4) (⟨t.val % 512, by omega⟩ : Fin 512))
def wOf (W : Vec Ideal S5120x128 .bf16) (k : Fin 5120) (e : Fin 128) : EReal := W (ix2 k e)
def iOf (I : Vec Ideal S4x2x512 .i32) (t : Fin 2048) (k : Fin 2) : BitVec 32 :=
  I (ix3 (⟨t.val / 512, by omega⟩ : Fin 4) k (⟨t.val % 512, by omega⟩ : Fin 512))
def gOf (G : Vec Ideal S4x2x512 .bf16) (t : Fin 2048) (k : Fin 2) : EReal :=
  G (ix3 (⟨t.val / 512, by omega⟩ : Fin 4) k (⟨t.val % 512, by omega⟩ : Fin 512))

section Spec
variable (X : Vec Ideal S2048x5120 .fp8e4m3) (S : Vec Ideal S4x512 .f32) (W : Vec Ideal S5120x128 .bf16)
  (I : Vec Ideal S4x2x512 .i32) (G : Vec Ideal S4x2x512 .bf16)

/-- The logits' gradient the specification gives for the operands, -/
def specDl : Vec Ideal S2048x128 .f32 := fun y => Spec.dl (xOf X) (sOf S) (wOf W) (iOf I) (gOf G) (y 0) (y 1)
/-- the token rows' gradient, -/
def specDx : Vec Ideal S2048x5120 .bf16 := fun y => Spec.dx (xOf X) (sOf S) (wOf W) (iOf I) (gOf G) (y 0) (y 1)
/-- the weights' gradient, -/
def specDw : Vec Ideal S5120x128 .f32 := fun y => Spec.dw (xOf X) (sOf S) (wOf W) (iOf I) (gOf G) (y 0) (y 1)
/-- and the scaled gradient of the logits the kernel keeps, experts by tokens. -/
def specDs : Vec Ideal S128x2048 .bf16 := fun y =>
  Spec.dl (xOf X) (sOf S) (wOf W) (iOf I) (gOf G) (y 1) (y 0) * sOf S (y 1)

/-- The transposed weights. -/
def wT : Vec Ideal S128x5120 .bf16 := fun y => W (ix2 (y 1) (y 0))

/-- Token `r` of the block from `o`. -/
def tok (o : ℕ) (ho : o + 256 ≤ 2048) (r : Fin 256) : Fin 2048 := ⟨o + r.val, by omega⟩

variable (o q l : ℕ) (ho : o + 256 ≤ 2048) (hq : q = o / 512) (hl : l = o % 512) (hm : o % 256 = 0)
include hq hl hm

/-- The block's gradient of the logits, from its loads. -/
theorem dlT_block (h1 : ∀ a, (![o, 0] : Fin 2 → ℕ) a + S256x5120.size a ≤ S2048x5120.size a)
    (h2 : ∀ a, (![q, l] : Fin 2 → ℕ) a + S1x256.size a ≤ S4x512.size a)
    (h3 : ∀ a, (![q, 0, l] : Fin 3 → ℕ) a + S1x1x256.size a ≤ S4x2x512.size a)
    (h4 : ∀ a, (![q, 1, l] : Fin 3 → ℕ) a + S1x1x256.size a ≤ S4x2x512.size a) (e : Fin 128) (r : Fin 256) :
    Block.dlT (wT W) (fun j => X ((Rect.unit (s := S2048x5120) ![o, 0] S256x5120.size h1).toLoadRect.idx j))
      (fun j => S ((Rect.unit (s := S4x512) ![q, l] S1x256.size h2).toLoadRect.idx j))
      (fun j => I ((Rect.unit (s := S4x2x512) ![q, 0, l] S1x1x256.size h3).toLoadRect.idx j))
      (fun j => G ((Rect.unit (s := S4x2x512) ![q, 0, l] S1x1x256.size h3).toLoadRect.idx j))
      (fun j => I ((Rect.unit (s := S4x2x512) ![q, 1, l] S1x1x256.size h4).toLoadRect.idx j))
      (fun j => G ((Rect.unit (s := S4x2x512) ![q, 1, l] S1x1x256.size h4).toLoadRect.idx j)) (ix2 e r)
    = Spec.dl (xOf X) (sOf S) (wOf W) (iOf I) (gOf G) (tok o ho r) e := by
  have hd : ∀ r : Fin 256, (o + r.val) / 512 = q ∧ (o + r.val) % 512 = l + r.val := fun r => by omega
  refine Block.dlT_apply _ _ _ _ _ (tok o ho) _ _ _ _ _ _ _ ?_ ?_ ?_ ?_ ?_ ?_ ?_ e r
  · intro r k
    refine congrArg X (funext fun a => Fin.ext ?_)
    match a with
    | ⟨0, _⟩ => show o + 1 * r.val = o + r.val; omega
    | ⟨1, _⟩ => show 0 + 1 * k.val = k.val; omega
  · intro r
    refine congrArg S (funext fun a => Fin.ext ?_)
    match a with
    | ⟨0, _⟩ => show q + 1 * 0 = (o + r.val) / 512; have := hd r; omega
    | ⟨1, _⟩ => show l + 1 * r.val = (o + r.val) % 512; have := hd r; omega
  · intro e k; rfl
  · intro r
    refine congrArg I (funext fun a => Fin.ext ?_)
    match a with
    | ⟨0, _⟩ => show q + 1 * 0 = (o + r.val) / 512; have := hd r; omega
    | ⟨1, _⟩ => rfl
    | ⟨2, _⟩ => show l + 1 * r.val = (o + r.val) % 512; have := hd r; omega
  · intro r
    refine congrArg I (funext fun a => Fin.ext ?_)
    match a with
    | ⟨0, _⟩ => show q + 1 * 0 = (o + r.val) / 512; have := hd r; omega
    | ⟨1, _⟩ => rfl
    | ⟨2, _⟩ => show l + 1 * r.val = (o + r.val) % 512; have := hd r; omega
  · intro r
    refine congrArg G (funext fun a => Fin.ext ?_)
    match a with
    | ⟨0, _⟩ => show q + 1 * 0 = (o + r.val) / 512; have := hd r; omega
    | ⟨1, _⟩ => rfl
    | ⟨2, _⟩ => show l + 1 * r.val = (o + r.val) % 512; have := hd r; omega
  · intro r
    refine congrArg G (funext fun a => Fin.ext ?_)
    match a with
    | ⟨0, _⟩ => show q + 1 * 0 = (o + r.val) / 512; have := hd r; omega
    | ⟨1, _⟩ => rfl
    | ⟨2, _⟩ => show l + 1 * r.val = (o + r.val) % 512; have := hd r; omega

/-- The scale the block loads for its token `r`. -/
theorem scale_block (h2 : ∀ a, (![q, l] : Fin 2 → ℕ) a + S1x256.size a ≤ S4x512.size a) (r : Fin 256) :
    S ((Rect.unit (s := S4x512) ![q, l] S1x256.size h2).toLoadRect.idx (ix2 0 r)) = sOf S (tok o ho r) := by
  have hd : (o + r.val) / 512 = q ∧ (o + r.val) % 512 = l + r.val := by omega
  refine congrArg S (funext fun a => Fin.ext ?_)
  match a with
  | ⟨0, _⟩ => show q + 1 * 0 = (o + r.val) / 512; omega
  | ⟨1, _⟩ => show l + 1 * r.val = (o + r.val) % 512; omega

omit hq hl hm

variable (d : FVec Ideal S128x256 .f32)
  (hd : ∀ e r, d (ix2 e r) = Spec.dl (xOf X) (sOf S) (wOf W) (iOf I) (gOf G) (tok o ho r) e)
include hd

/-- The block's store of the logits' gradient is the specification's at its rectangle, -/
theorem dl_piece (h : ∀ a, (![o, 0] : Fin 2 → ℕ) a + S256x128.size a ≤ S2048x128.size a) (x : S256x128.Idx) :
    Block.dlOut d x = specDl X S W I G ((Rect.unit (s := S2048x128) ![o, 0] S256x128.size h).emb x) := by
  obtain ⟨a, b, rfl⟩ : ∃ (a : Fin 256) (b : Fin 128), x = ix2 a b := ⟨x 0, x 1, eq_ix2 x⟩
  rw [Block.dlOut_apply, hd]
  refine congrArg₂ (Spec.dl _ _ _ _ _) (Fin.ext ?_) (Fin.ext ?_)
  · show o + a.val = o + 1 * a.val; omega
  · show b.val = 0 + 1 * b.val; omega

/-- that of the token rows' gradient too, -/
theorem dx_piece (h : ∀ a, (![o, 0] : Fin 2 → ℕ) a + S256x5120.size a ≤ S2048x5120.size a) (x : S256x5120.Idx) :
    Block.dxOut d (wT W) x = specDx X S W I G ((Rect.unit (s := S2048x5120) ![o, 0] S256x5120.size h).emb x) := by
  obtain ⟨a, b, rfl⟩ : ∃ (a : Fin 256) (b : Fin 5120), x = ix2 a b := ⟨x 0, x 1, eq_ix2 x⟩
  rw [Block.dxOut_apply]
  simp only [hd]
  refine Eq.trans (b := Spec.dx (xOf X) (sOf S) (wOf W) (iOf I) (gOf G) (tok o ho a) b) rfl ?_
  refine congrArg₂ (Spec.dx _ _ _ _ _) (Fin.ext ?_) (Fin.ext ?_)
  · show o + a.val = o + 1 * a.val; omega
  · show b.val = 0 + 1 * b.val; omega

/-- and so is what it keeps for the weights' gradient. -/
theorem ds_piece (sb : Vec Ideal S1x256 .f32) (hs : ∀ r, sb (ix2 0 r) = sOf S (tok o ho r))
    (h : ∀ a, (![0, o] : Fin 2 → ℕ) a + S128x256.size a ≤ S128x2048.size a) (x : S128x256.Idx) :
    Block.dsOut d sb x = specDs X S W I G ((Rect.unit (s := S128x2048) ![0, o] S128x256.size h).emb x) := by
  obtain ⟨a, b, rfl⟩ : ∃ (a : Fin 128) (b : Fin 256), x = ix2 a b := ⟨x 0, x 1, eq_ix2 x⟩
  rw [Block.dsOut_apply, hd, hs]
  have e1 : tok o ho b = (Rect.unit (s := S128x2048) ![0, o] S128x256.size h).emb (ix2 a b) 1 :=
    Fin.ext (by show o + b.val = o + 1 * b.val; omega)
  have e0 : a = (Rect.unit (s := S128x2048) ![0, o] S128x256.size h).emb (ix2 a b) 0 :=
    Fin.ext (by show a.val = 0 + 1 * a.val; omega)
  unfold specDs
  rw [← e1, ← e0]

omit hd in
/-- A store of 512 rows of the weights' gradient is the specification's at its rectangle. -/
theorem dw_piece (h0 : ∀ a, (![0, 0] : Fin 2 → ℕ) a + S128x2048.size a ≤ S128x2048.size a)
    (h1 : ∀ a, (![0, o] : Fin 2 → ℕ) a + S2048x512.size a ≤ S2048x5120.size a)
    (h : ∀ a, (![o, 0] : Fin 2 → ℕ) a + S512x128.size a ≤ S5120x128.size a) (x : S512x128.Idx) :
    k0_pay70 (fun j => specDs X S W I G ((Rect.unit (s := S128x2048) ![0, 0] S128x2048.size h0).toLoadRect.idx j))
      (fun j => X ((Rect.unit (s := S2048x5120) ![0, o] S2048x512.size h1).toLoadRect.idx j)) x
    = specDw X S W I G ((Rect.unit (s := S5120x128) ![o, 0] S512x128.size h).emb x) := by
  obtain ⟨a, b, rfl⟩ : ∃ (a : Fin 512) (b : Fin 128), x = ix2 a b := ⟨x 0, x 1, eq_ix2 x⟩
  rw [Block.dwOut_apply]
  unfold specDw Spec.dw
  refine Finset.sum_congr rfl fun t _ => ?_
  refine congrArg₂ (· * ·) (congrArg X (funext fun n => Fin.ext ?_)) ?_
  · match n with
    | ⟨0, _⟩ => show 0 + 1 * t.val = t.val; omega
    | ⟨1, _⟩ => show o + 1 * a.val = o + 1 * a.val; rfl
  · have e1 : (Rect.unit (s := S128x2048) ![0, 0] S128x2048.size h0).toLoadRect.idx (ix2 b t) 1 = t :=
      Fin.ext (by show 0 + 1 * t.val = t.val; omega)
    have e0 : (Rect.unit (s := S128x2048) ![0, 0] S128x2048.size h0).toLoadRect.idx (ix2 b t) 0
        = (Rect.unit (s := S5120x128) ![o, 0] S512x128.size h).emb (ix2 a b) 1 :=
      Fin.ext (by show 0 + 1 * b.val = 0 + 1 * b.val; rfl)
    unfold specDs
    rw [e1, e0]

end Spec

end Cert.Proof.Loads
-- ==== Proof.Operands.lean ====
module
public import proofs.«01_k».proof.Proof.RefValue
public import proofs.«01_k».proof.Proof.Loads
@[expose] public section
set_option maxRecDepth 16384
noncomputable section

/-!
# Both programs read the same operands

The kernel's host side transposes the expert indices and their gradients and flattens the tokens; the reference's flattens
every operand. Token `t` of the flat order is token `t % 512` of sequence `t / 512`.
-/

namespace Cert.Proof.Operands
open Idealize.ShloMosaic Idealize.ShloMosaic.TcCoe

section Kernel
open Cert.KernelIdeal Cert.KernelIdeal.Gen
variable (m : (ℓ : Loc nD τ sig) → Buf (Elt Ideal) ℓ) (c : Dev nD)

/-- The kernel's tokens, expert indices and gates' gradients, as its host side lays them out. -/
theorem kernel_x : V m c main_v2 = shapeCast S2048x5120 (m ((c : Thread nD τ).loc main_arg0) : Vec Ideal S4x512x5120 .fp8e4m3) shapeCasts_S4x512x5120_S2048x5120 := by
  dsimp only [V, hostOps0]
  after_results
  rfl
theorem kernel_i : V m c main_v0 = transpose S4x2x512 [0, 2, 1] (m ((c : Thread nD τ).loc main_arg3) : Vec Ideal S4x512x2 .i32) transposes_S4x512x2_S4x2x512_0_2_1 := by
  dsimp only [V, hostOps0]
  after_results
theorem kernel_g : V m c main_v1 = transpose S4x2x512 [0, 2, 1] (m ((c : Thread nD τ).loc main_arg4) : Vec Ideal S4x512x2 .bf16) transposes_S4x512x2_S4x2x512_0_2_1 := by
  dsimp only [V, hostOps0]
  after_results
end Kernel

section Reference
open Cert.ReferenceIdeal Cert.ReferenceIdeal.Gen
variable (m : (ℓ : Loc nD τ sig) → Buf (Elt Ideal) ℓ) (c : Dev nD)

/-- The reference's operands, each flattened over the tokens. -/
theorem ref_x : V m c main_v0 = shapeCast S2048x5120 (m ((c : Thread nD τ).loc main_arg0) : Vec Ideal S4x512x5120 .fp8e4m3) shapeCasts_S4x512x5120_S2048x5120 := by
  dsimp only [V, hostOps0]
  after_results
  rfl
theorem ref_s : V m c main_v1 = shapeCast S2048x1 (m ((c : Thread nD τ).loc main_arg1) : Vec Ideal S4x512 .f32) shapeCasts_S4x512_S2048x1 := by
  dsimp only [V, hostOps0]
  after_results
  rfl
theorem ref_i : V m c main_v2 = shapeCast S2048x2 (m ((c : Thread nD τ).loc main_arg3) : Vec Ideal S4x512x2 .i32) shapeCasts_S4x512x2_S2048x2 := by
  dsimp only [V, hostOps0]
  after_results
  rfl
theorem ref_g : V m c main_v3 = shapeCast S2048x2 (m ((c : Thread nD τ).loc main_arg4) : Vec Ideal S4x512x2 .bf16) shapeCasts_S4x512x2_S2048x2 := by
  dsimp only [V, hostOps0]
  after_results
  rfl
end Reference

section Same
open Cert.ReferenceIdeal

/-- Flat token `t` is token `t % 512` of sequence `t / 512`: of the scales, -/
theorem flat_s (A : Vec Ideal S4x512 .f32) (t : Fin 2048) : RefValue.sOf (shapeCast S2048x1 A Cert.ReferenceIdeal.Gen.shapeCasts_S4x512_S2048x1) t = Loads.sOf A t := by
  pointwise [RefValue.sOf, Loads.sOf]
/-- of the expert indices, -/
theorem flat_i (A : Vec Ideal S4x512x2 .i32) (t : Fin 2048) (k : Fin 2) : RefValue.iOf (shapeCast S2048x2 A Cert.ReferenceIdeal.Gen.shapeCasts_S4x512x2_S2048x2) t k = Loads.iOf (transpose Cert.KernelIdeal.S4x2x512 [0, 2, 1] A Cert.KernelIdeal.Gen.transposes_S4x512x2_S4x2x512_0_2_1) t k := by
  pointwise [RefValue.iOf, Loads.iOf]
/-- of the gates' gradients. -/
theorem flat_g (A : Vec Ideal S4x512x2 .bf16) (t : Fin 2048) (k : Fin 2) : RefValue.gOf (shapeCast S2048x2 A Cert.ReferenceIdeal.Gen.shapeCasts_S4x512x2_S2048x2) t k = Loads.gOf (transpose Cert.KernelIdeal.S4x2x512 [0, 2, 1] A Cert.KernelIdeal.Gen.transposes_S4x512x2_S4x2x512_0_2_1) t k := by
  pointwise [RefValue.gOf, Loads.gOf]
end Same
end Cert.Proof.Operands
-- ==== Proof.Stores.lean ====
module
public import proofs.«01_k».proof.Proof.Loads
public import Idealize.ShloMosaic.Lib.VecWindow
@[expose] public section
set_option maxRecDepth 16384
noncomputable section

/-!
# Every store of the kernel holds the specification's values

Block by block: what each load of the body reads, that the block's gradient of the logits is the specification's, and that
the pieces stored of the three results agree with it. Then the three results as the body leaves them.
-/

namespace Cert.Proof.Stores
open Idealize.ShloMosaic Idealize.ShloMosaic.TcCoe
open Cert.KernelIdeal Cert.KernelIdeal.Gen
open Cert.Proof.BodyKernelIdeal Cert.Proof.BodyKernelIdeal.bodyRun Cert.Proof.Loads

section
variable (c : Dev nD)
  (X : Buf (Elt Ideal) ((c : Thread nD τ).loc main_v2)) (S : Buf (Elt Ideal) ((c : Thread nD τ).loc main_arg1))
  (W : Buf (Elt Ideal) ((c : Thread nD τ).loc main_arg2)) (I : Buf (Elt Ideal) ((c : Thread nD τ).loc main_v0))
  (G : Buf (Elt Ideal) ((c : Thread nD τ).loc main_v1))
  (f1 : Buf (Elt Ideal) ((c : Thread nD τ).loc cc0_scratch1)) (f2 : Buf (Elt Ideal) ((c : Thread nD τ).loc cc0_scratch2))
  (f3 : Buf (Elt Ideal) ((c : Thread nD τ).loc cc0_scratch3)) (f4 : Buf (Elt Ideal) ((c : Thread nD τ).loc cc0_scratch4))

/-! ## The loads -/

theorem w_load : sl.v42 c W f2 = (W : Vec Ideal S5120x128 .bf16) :=
  (readAt_fill (Memref.whole cc0_scratch2).view f2 (sl.dma0 c W) _).trans
    (funext fun j => congrArg (W : Vec Ideal S5120x128 .bf16) (Rect.emb_unit_full (s := S5120x128) _ j))

/-- The weights as loaded, transposed. -/
theorem wt_load : sl.v51 c W f2 = wT W := by
  have hv : ∀ y : S128x5120.Idx, sl.v46 c W f2 y = wT W y := by
    intro y
    obtain ⟨a, b, rfl⟩ : ∃ (a : Fin 128) (b : Fin 5120), y = ix2 a b := ⟨y 0, y 1, eq_ix2 y⟩
    unfold sl.v46 sl.v43
    rw [w_load]
    pointwise [wT]
  have hg : Good (Val := Elt Ideal) (s := S128x5120) (e := .bf16) (wT W) (sl.HB5_1 c W f2) :=
    good_cons (fun x => (hv x).trans (congrArg (wT W) (Rect.emb_unit_full (s := S128x5120) _ x).symm)) (good_nil _)
  exact (readCov_good (Memref.whole cc0_scratch5).view hg
    (View.cover_of_tiled (sl.HB5_1 c W f2) S128x5120.size (by rfl)) _).trans
      (funext fun j => congrArg (wT W) (Rect.emb_unit_full (s := S128x5120) _ j))

/-- The token rows as copied in, eight pieces. -/
def xPieces : List (View.Piece (Elt Ideal) S2048x5120 .fp8e4m3) :=
  [⟨Rect.unit ![1792, 0] S256x5120.size (by decide), sl.dma0_11 c X⟩,
    ⟨Rect.unit ![1536, 0] S256x5120.size (by decide), sl.dma0_10 c X⟩,
    ⟨Rect.unit ![1280, 0] S256x5120.size (by decide), sl.dma0_9 c X⟩,
    ⟨Rect.unit ![1024, 0] S256x5120.size (by decide), sl.dma0_8 c X⟩,
    ⟨Rect.unit ![768, 0] S256x5120.size (by decide), sl.dma0_7 c X⟩,
    ⟨Rect.unit ![512, 0] S256x5120.size (by decide), sl.dma0_6 c X⟩,
    ⟨Rect.unit ![256, 0] S256x5120.size (by decide), sl.dma0_5 c X⟩,
    ⟨Rect.unit ![0, 0] S256x5120.size (by decide), sl.dma0_1 c X⟩]

theorem xPieces_good : Good (Val := Elt Ideal) (s := S2048x5120) (e := .fp8e4m3) X (xPieces c X) := by
  refine good_cons (fun _ => rfl) <| good_cons (fun _ => rfl) <| good_cons (fun _ => rfl) <| good_cons (fun _ => rfl) <| good_cons (fun _ => rfl) <| good_cons (fun _ => rfl) <| good_cons (fun _ => rfl) <| good_cons (fun _ => rfl) <| good_nil _

theorem xPieces_cover (y : S2048x5120.Idx) : ∃ p ∈ xPieces c X, y ∈ p.1.set := View.cover_of_tiled (xPieces c X) S256x5120.size (by rfl) y

theorem v52_load : sl.v52 c X = fun j => (X : Vec Ideal S2048x5120 .fp8e4m3) ((Rect.unit (s := S2048x5120) ![0, 0] S256x5120.size inb_S2048x5120_S256x5120_0_0).toLoadRect.idx j) :=
  readCov_good (Memref.whole cc0_scratch0).view (xPieces_good c X) (xPieces_cover c X) _

theorem v65_load : sl.v65 c X = fun j => (X : Vec Ideal S2048x5120 .fp8e4m3) ((Rect.unit (s := S2048x5120) ![256, 0] S256x5120.size inb_S2048x5120_S256x5120_256_0).toLoadRect.idx j) :=
  readCov_good (Memref.whole cc0_scratch0).view (xPieces_good c X) (xPieces_cover c X) _

theorem v143_load : sl.v143 c X = fun j => (X : Vec Ideal S2048x5120 .fp8e4m3) ((Rect.unit (s := S2048x5120) ![512, 0] S256x5120.size inb_S2048x5120_S256x5120_512_0).toLoadRect.idx j) :=
  readCov_good (Memref.whole cc0_scratch0).view (xPieces_good c X) (xPieces_cover c X) _

theorem v221_load : sl.v221 c X = fun j => (X : Vec Ideal S2048x5120 .fp8e4m3) ((Rect.unit (s := S2048x5120) ![768, 0] S256x5120.size inb_S2048x5120_S256x5120_768_0).toLoadRect.idx j) :=
  readCov_good (Memref.whole cc0_scratch0).view (xPieces_good c X) (xPieces_cover c X) _

theorem v299_load : sl.v299 c X = fun j => (X : Vec Ideal S2048x5120 .fp8e4m3) ((Rect.unit (s := S2048x5120) ![1024, 0] S256x5120.size inb_S2048x5120_S256x5120_1024_0).toLoadRect.idx j) :=
  readCov_good (Memref.whole cc0_scratch0).view (xPieces_good c X) (xPieces_cover c X) _

theorem v377_load : sl.v377 c X = fun j => (X : Vec Ideal S2048x5120 .fp8e4m3) ((Rect.unit (s := S2048x5120) ![1280, 0] S256x5120.size inb_S2048x5120_S256x5120_1280_0).toLoadRect.idx j) :=
  readCov_good (Memref.whole cc0_scratch0).view (xPieces_good c X) (xPieces_cover c X) _

theorem v455_load : sl.v455 c X = fun j => (X : Vec Ideal S2048x5120 .fp8e4m3) ((Rect.unit (s := S2048x5120) ![1536, 0] S256x5120.size inb_S2048x5120_S256x5120_1536_0).toLoadRect.idx j) :=
  readCov_good (Memref.whole cc0_scratch0).view (xPieces_good c X) (xPieces_cover c X) _

theorem v533_load : sl.v533 c X = fun j => (X : Vec Ideal S2048x5120 .fp8e4m3) ((Rect.unit (s := S2048x5120) ![1792, 0] S256x5120.size inb_S2048x5120_S256x5120_1792_0).toLoadRect.idx j) :=
  readCov_good (Memref.whole cc0_scratch0).view (xPieces_good c X) (xPieces_cover c X) _

theorem v678_load : sl.v678 c X = fun j => (X : Vec Ideal S2048x5120 .fp8e4m3) ((Rect.unit (s := S2048x5120) ![0, 0] S2048x512.size inb_S2048x5120_S2048x512_0_0).toLoadRect.idx j) :=
  readCov_good (Memref.whole cc0_scratch0).view (xPieces_good c X) (xPieces_cover c X) _

theorem v689_load : sl.v689 c X = fun j => (X : Vec Ideal S2048x5120 .fp8e4m3) ((Rect.unit (s := S2048x5120) ![0, 512] S2048x512.size inb_S2048x5120_S2048x512_0_512).toLoadRect.idx j) :=
  readCov_good (Memref.whole cc0_scratch0).view (xPieces_good c X) (xPieces_cover c X) _

theorem v700_load : sl.v700 c X = fun j => (X : Vec Ideal S2048x5120 .fp8e4m3) ((Rect.unit (s := S2048x5120) ![0, 1024] S2048x512.size inb_S2048x5120_S2048x512_0_1024).toLoadRect.idx j) :=
  readCov_good (Memref.whole cc0_scratch0).view (xPieces_good c X) (xPieces_cover c X) _

theorem v711_load : sl.v711 c X = fun j => (X : Vec Ideal S2048x5120 .fp8e4m3) ((Rect.unit (s := S2048x5120) ![0, 1536] S2048x512.size inb_S2048x5120_S2048x512_0_1536).toLoadRect.idx j) :=
  readCov_good (Memref.whole cc0_scratch0).view (xPieces_good c X) (xPieces_cover c X) _

theorem v722_load : sl.v722 c X = fun j => (X : Vec Ideal S2048x5120 .fp8e4m3) ((Rect.unit (s := S2048x5120) ![0, 2048] S2048x512.size inb_S2048x5120_S2048x512_0_2048).toLoadRect.idx j) :=
  readCov_good (Memref.whole cc0_scratch0).view (xPieces_good c X) (xPieces_cover c X) _

theorem v733_load : sl.v733 c X = fun j => (X : Vec Ideal S2048x5120 .fp8e4m3) ((Rect.unit (s := S2048x5120) ![0, 2560] S2048x512.size inb_S2048x5120_S2048x512_0_2560).toLoadRect.idx j) :=
  readCov_good (Memref.whole cc0_scratch0).view (xPieces_good c X) (xPieces_cover c X) _

theorem v744_load : sl.v744 c X = fun j => (X : Vec Ideal S2048x5120 .fp8e4m3) ((Rect.unit (s := S2048x5120) ![0, 3072] S2048x512.size inb_S2048x5120_S2048x512_0_3072).toLoadRect.idx j) :=
  readCov_good (Memref.whole cc0_scratch0).view (xPieces_good c X) (xPieces_cover c X) _

theorem v755_load : sl.v755 c X = fun j => (X : Vec Ideal S2048x5120 .fp8e4m3) ((Rect.unit (s := S2048x5120) ![0, 3584] S2048x512.size inb_S2048x5120_S2048x512_0_3584).toLoadRect.idx j) :=
  readCov_good (Memref.whole cc0_scratch0).view (xPieces_good c X) (xPieces_cover c X) _

theorem v766_load : sl.v766 c X = fun j => (X : Vec Ideal S2048x5120 .fp8e4m3) ((Rect.unit (s := S2048x5120) ![0, 4096] S2048x512.size inb_S2048x5120_S2048x512_0_4096).toLoadRect.idx j) :=
  readCov_good (Memref.whole cc0_scratch0).view (xPieces_good c X) (xPieces_cover c X) _

theorem v777_load : sl.v777 c X = fun j => (X : Vec Ideal S2048x5120 .fp8e4m3) ((Rect.unit (s := S2048x5120) ![0, 4608] S2048x512.size inb_S2048x5120_S2048x512_0_4608).toLoadRect.idx j) :=
  readCov_good (Memref.whole cc0_scratch0).view (xPieces_good c X) (xPieces_cover c X) _

theorem v67_load : sl.v67 c S f1 = fun j => (S : Vec Ideal S4x512 .f32) ((Rect.unit (s := S4x512) ![0, 0] S1x256.size inb_S4x512_S1x256_0_0).toLoadRect.idx j) := readAt_fill _ _ _ _

theorem v81_load : sl.v81 c I f3 = fun j => (I : Vec Ideal S4x2x512 .i32) ((Rect.unit (s := S4x2x512) ![0, 0, 0] S1x1x256.size inb_S4x2x512_S1x1x256_0_0_0).toLoadRect.idx j) := readAt_fill _ _ _ _

theorem v85_load : sl.v85 c G f4 = fun j => (G : Vec Ideal S4x2x512 .bf16) ((Rect.unit (s := S4x2x512) ![0, 0, 0] S1x1x256.size inb_S4x2x512_S1x1x256_0_0_0).toLoadRect.idx j) := readAt_fill _ _ _ _

theorem v93_load : sl.v93 c I f3 = fun j => (I : Vec Ideal S4x2x512 .i32) ((Rect.unit (s := S4x2x512) ![0, 1, 0] S1x1x256.size inb_S4x2x512_S1x1x256_0_1_0).toLoadRect.idx j) := readAt_fill _ _ _ _

theorem v97_load : sl.v97 c G f4 = fun j => (G : Vec Ideal S4x2x512 .bf16) ((Rect.unit (s := S4x2x512) ![0, 1, 0] S1x1x256.size inb_S4x2x512_S1x1x256_0_1_0).toLoadRect.idx j) := readAt_fill _ _ _ _

theorem v145_load : sl.v145 c S f1 = fun j => (S : Vec Ideal S4x512 .f32) ((Rect.unit (s := S4x512) ![0, 256] S1x256.size inb_S4x512_S1x256_0_256).toLoadRect.idx j) := readAt_fill _ _ _ _

theorem v159_load : sl.v159 c I f3 = fun j => (I : Vec Ideal S4x2x512 .i32) ((Rect.unit (s := S4x2x512) ![0, 0, 256] S1x1x256.size inb_S4x2x512_S1x1x256_0_0_256).toLoadRect.idx j) := readAt_fill _ _ _ _

theorem v163_load : sl.v163 c G f4 = fun j => (G : Vec Ideal S4x2x512 .bf16) ((Rect.unit (s := S4x2x512) ![0, 0, 256] S1x1x256.size inb_S4x2x512_S1x1x256_0_0_256).toLoadRect.idx j) := readAt_fill _ _ _ _

theorem v171_load : sl.v171 c I f3 = fun j => (I : Vec Ideal S4x2x512 .i32) ((Rect.unit (s := S4x2x512) ![0, 1, 256] S1x1x256.size inb_S4x2x512_S1x1x256_0_1_256).toLoadRect.idx j) := readAt_fill _ _ _ _

theorem v175_load : sl.v175 c G f4 = fun j => (G : Vec Ideal S4x2x512 .bf16) ((Rect.unit (s := S4x2x512) ![0, 1, 256] S1x1x256.size inb_S4x2x512_S1x1x256_0_1_256).toLoadRect.idx j) := readAt_fill _ _ _ _

theorem v223_load : sl.v223 c S f1 = fun j => (S : Vec Ideal S4x512 .f32) ((Rect.unit (s := S4x512) ![1, 0] S1x256.size inb_S4x512_S1x256_1_0).toLoadRect.idx j) := readAt_fill _ _ _ _

theorem v237_load : sl.v237 c I f3 = fun j => (I : Vec Ideal S4x2x512 .i32) ((Rect.unit (s := S4x2x512) ![1, 0, 0] S1x1x256.size inb_S4x2x512_S1x1x256_1_0_0).toLoadRect.idx j) := readAt_fill _ _ _ _

theorem v241_load : sl.v241 c G f4 = fun j => (G : Vec Ideal S4x2x512 .bf16) ((Rect.unit (s := S4x2x512) ![1, 0, 0] S1x1x256.size inb_S4x2x512_S1x1x256_1_0_0).toLoadRect.idx j) := readAt_fill _ _ _ _

theorem v249_load : sl.v249 c I f3 = fun j => (I : Vec Ideal S4x2x512 .i32) ((Rect.unit (s := S4x2x512) ![1, 1, 0] S1x1x256.size inb_S4x2x512_S1x1x256_1_1_0).toLoadRect.idx j) := readAt_fill _ _ _ _

theorem v253_load : sl.v253 c G f4 = fun j => (G : Vec Ideal S4x2x512 .bf16) ((Rect.unit (s := S4x2x512) ![1, 1, 0] S1x1x256.size inb_S4x2x512_S1x1x256_1_1_0).toLoadRect.idx j) := readAt_fill _ _ _ _

theorem v301_load : sl.v301 c S f1 = fun j => (S : Vec Ideal S4x512 .f32) ((Rect.unit (s := S4x512) ![1, 256] S1x256.size inb_S4x512_S1x256_1_256).toLoadRect.idx j) := readAt_fill _ _ _ _

theorem v315_load : sl.v315 c I f3 = fun j => (I : Vec Ideal S4x2x512 .i32) ((Rect.unit (s := S4x2x512) ![1, 0, 256] S1x1x256.size inb_S4x2x512_S1x1x256_1_0_256).toLoadRect.idx j) := readAt_fill _ _ _ _

theorem v319_load : sl.v319 c G f4 = fun j => (G : Vec Ideal S4x2x512 .bf16) ((Rect.unit (s := S4x2x512) ![1, 0, 256] S1x1x256.size inb_S4x2x512_S1x1x256_1_0_256).toLoadRect.idx j) := readAt_fill _ _ _ _

theorem v327_load : sl.v327 c I f3 = fun j => (I : Vec Ideal S4x2x512 .i32) ((Rect.unit (s := S4x2x512) ![1, 1, 256] S1x1x256.size inb_S4x2x512_S1x1x256_1_1_256).toLoadRect.idx j) := readAt_fill _ _ _ _

theorem v331_load : sl.v331 c G f4 = fun j => (G : Vec Ideal S4x2x512 .bf16) ((Rect.unit (s := S4x2x512) ![1, 1, 256] S1x1x256.size inb_S4x2x512_S1x1x256_1_1_256).toLoadRect.idx j) := readAt_fill _ _ _ _

theorem v379_load : sl.v379 c S f1 = fun j => (S : Vec Ideal S4x512 .f32) ((Rect.unit (s := S4x512) ![2, 0] S1x256.size inb_S4x512_S1x256_2_0).toLoadRect.idx j) := readAt_fill _ _ _ _

theorem v393_load : sl.v393 c I f3 = fun j => (I : Vec Ideal S4x2x512 .i32) ((Rect.unit (s := S4x2x512) ![2, 0, 0] S1x1x256.size inb_S4x2x512_S1x1x256_2_0_0).toLoadRect.idx j) := readAt_fill _ _ _ _

theorem v397_load : sl.v397 c G f4 = fun j => (G : Vec Ideal S4x2x512 .bf16) ((Rect.unit (s := S4x2x512) ![2, 0, 0] S1x1x256.size inb_S4x2x512_S1x1x256_2_0_0).toLoadRect.idx j) := readAt_fill _ _ _ _

theorem v405_load : sl.v405 c I f3 = fun j => (I : Vec Ideal S4x2x512 .i32) ((Rect.unit (s := S4x2x512) ![2, 1, 0] S1x1x256.size inb_S4x2x512_S1x1x256_2_1_0).toLoadRect.idx j) := readAt_fill _ _ _ _

theorem v409_load : sl.v409 c G f4 = fun j => (G : Vec Ideal S4x2x512 .bf16) ((Rect.unit (s := S4x2x512) ![2, 1, 0] S1x1x256.size inb_S4x2x512_S1x1x256_2_1_0).toLoadRect.idx j) := readAt_fill _ _ _ _

theorem v457_load : sl.v457 c S f1 = fun j => (S : Vec Ideal S4x512 .f32) ((Rect.unit (s := S4x512) ![2, 256] S1x256.size inb_S4x512_S1x256_2_256).toLoadRect.idx j) := readAt_fill _ _ _ _

theorem v471_load : sl.v471 c I f3 = fun j => (I : Vec Ideal S4x2x512 .i32) ((Rect.unit (s := S4x2x512) ![2, 0, 256] S1x1x256.size inb_S4x2x512_S1x1x256_2_0_256).toLoadRect.idx j) := readAt_fill _ _ _ _

theorem v475_load : sl.v475 c G f4 = fun j => (G : Vec Ideal S4x2x512 .bf16) ((Rect.unit (s := S4x2x512) ![2, 0, 256] S1x1x256.size inb_S4x2x512_S1x1x256_2_0_256).toLoadRect.idx j) := readAt_fill _ _ _ _

theorem v483_load : sl.v483 c I f3 = fun j => (I : Vec Ideal S4x2x512 .i32) ((Rect.unit (s := S4x2x512) ![2, 1, 256] S1x1x256.size inb_S4x2x512_S1x1x256_2_1_256).toLoadRect.idx j) := readAt_fill _ _ _ _

theorem v487_load : sl.v487 c G f4 = fun j => (G : Vec Ideal S4x2x512 .bf16) ((Rect.unit (s := S4x2x512) ![2, 1, 256] S1x1x256.size inb_S4x2x512_S1x1x256_2_1_256).toLoadRect.idx j) := readAt_fill _ _ _ _

theorem v535_load : sl.v535 c S f1 = fun j => (S : Vec Ideal S4x512 .f32) ((Rect.unit (s := S4x512) ![3, 0] S1x256.size inb_S4x512_S1x256_3_0).toLoadRect.idx j) := readAt_fill _ _ _ _

theorem v549_load : sl.v549 c I f3 = fun j => (I : Vec Ideal S4x2x512 .i32) ((Rect.unit (s := S4x2x512) ![3, 0, 0] S1x1x256.size inb_S4x2x512_S1x1x256_3_0_0).toLoadRect.idx j) := readAt_fill _ _ _ _

theorem v553_load : sl.v553 c G f4 = fun j => (G : Vec Ideal S4x2x512 .bf16) ((Rect.unit (s := S4x2x512) ![3, 0, 0] S1x1x256.size inb_S4x2x512_S1x1x256_3_0_0).toLoadRect.idx j) := readAt_fill _ _ _ _

theorem v561_load : sl.v561 c I f3 = fun j => (I : Vec Ideal S4x2x512 .i32) ((Rect.unit (s := S4x2x512) ![3, 1, 0] S1x1x256.size inb_S4x2x512_S1x1x256_3_1_0).toLoadRect.idx j) := readAt_fill _ _ _ _

theorem v565_load : sl.v565 c G f4 = fun j => (G : Vec Ideal S4x2x512 .bf16) ((Rect.unit (s := S4x2x512) ![3, 1, 0] S1x1x256.size inb_S4x2x512_S1x1x256_3_1_0).toLoadRect.idx j) := readAt_fill _ _ _ _

theorem v606_load : sl.v606 c S f1 = fun j => (S : Vec Ideal S4x512 .f32) ((Rect.unit (s := S4x512) ![3, 256] S1x256.size inb_S4x512_S1x256_3_256).toLoadRect.idx j) := readAt_fill _ _ _ _

theorem v620_load : sl.v620 c I f3 = fun j => (I : Vec Ideal S4x2x512 .i32) ((Rect.unit (s := S4x2x512) ![3, 0, 256] S1x1x256.size inb_S4x2x512_S1x1x256_3_0_256).toLoadRect.idx j) := readAt_fill _ _ _ _

theorem v624_load : sl.v624 c G f4 = fun j => (G : Vec Ideal S4x2x512 .bf16) ((Rect.unit (s := S4x2x512) ![3, 0, 256] S1x1x256.size inb_S4x2x512_S1x1x256_3_0_256).toLoadRect.idx j) := readAt_fill _ _ _ _

theorem v632_load : sl.v632 c I f3 = fun j => (I : Vec Ideal S4x2x512 .i32) ((Rect.unit (s := S4x2x512) ![3, 1, 256] S1x1x256.size inb_S4x2x512_S1x1x256_3_1_256).toLoadRect.idx j) := readAt_fill _ _ _ _

theorem v636_load : sl.v636 c G f4 = fun j => (G : Vec Ideal S4x2x512 .bf16) ((Rect.unit (s := S4x2x512) ![3, 1, 256] S1x1x256.size inb_S4x2x512_S1x1x256_3_1_256).toLoadRect.idx j) := readAt_fill _ _ _ _

/-! ## The blocks -/

/-- The gradient of the logits of block 0, experts by tokens. -/
def d0 : FVec Ideal S128x256 .f32 :=
  Block.dlT (sl.v51 c W f2) (sl.v52 c X) (sl.v67 c S f1) (sl.v81 c I f3) (sl.v85 c G f4) (sl.v93 c I f3) (sl.v97 c G f4)

theorem d0_apply (e : Fin 128) (r : Fin 256) :
    d0 c X S W I G f1 f2 f3 f4 (ix2 e r) = Spec.dl (xOf X) (sOf S) (wOf W) (iOf I) (gOf G) (tok 0 (by decide) r) e := by
  unfold d0
  rw [wt_load, v52_load, v67_load, v81_load, v85_load, v93_load, v97_load]
  exact dlT_block X S W I G 0 0 0 (by decide) rfl rfl rfl _ _ _ _ e r

theorem s0_apply (r : Fin 256) : sl.v67 c S f1 (ix2 0 r) = sOf S (tok 0 (by decide) r) := by
  rw [v67_load]
  exact scale_block S 0 0 0 (by decide) rfl rfl rfl _ r

/-- The gradient of the logits of block 1, experts by tokens. -/
def d1 : FVec Ideal S128x256 .f32 :=
  Block.dlT (sl.v51 c W f2) (sl.v65 c X) (sl.v145 c S f1) (sl.v159 c I f3) (sl.v163 c G f4) (sl.v171 c I f3) (sl.v175 c G f4)

theorem d1_apply (e : Fin 128) (r : Fin 256) :
    d1 c X S W I G f1 f2 f3 f4 (ix2 e r) = Spec.dl (xOf X) (sOf S) (wOf W) (iOf I) (gOf G) (tok 256 (by decide) r) e := by
  unfold d1
  rw [wt_load, v65_load, v145_load, v159_load, v163_load, v171_load, v175_load]
  exact dlT_block X S W I G 256 0 256 (by decide) rfl rfl rfl _ _ _ _ e r

theorem s1_apply (r : Fin 256) : sl.v145 c S f1 (ix2 0 r) = sOf S (tok 256 (by decide) r) := by
  rw [v145_load]
  exact scale_block S 256 0 256 (by decide) rfl rfl rfl _ r

/-- The gradient of the logits of block 2, experts by tokens. -/
def d2 : FVec Ideal S128x256 .f32 :=
  Block.dlT (sl.v51 c W f2) (sl.v143 c X) (sl.v223 c S f1) (sl.v237 c I f3) (sl.v241 c G f4) (sl.v249 c I f3) (sl.v253 c G f4)

theorem d2_apply (e : Fin 128) (r : Fin 256) :
    d2 c X S W I G f1 f2 f3 f4 (ix2 e r) = Spec.dl (xOf X) (sOf S) (wOf W) (iOf I) (gOf G) (tok 512 (by decide) r) e := by
  unfold d2
  rw [wt_load, v143_load, v223_load, v237_load, v241_load, v249_load, v253_load]
  exact dlT_block X S W I G 512 1 0 (by decide) rfl rfl rfl _ _ _ _ e r

theorem s2_apply (r : Fin 256) : sl.v223 c S f1 (ix2 0 r) = sOf S (tok 512 (by decide) r) := by
  rw [v223_load]
  exact scale_block S 512 1 0 (by decide) rfl rfl rfl _ r

/-- The gradient of the logits of block 3, experts by tokens. -/
def d3 : FVec Ideal S128x256 .f32 :=
  Block.dlT (sl.v51 c W f2) (sl.v221 c X) (sl.v301 c S f1) (sl.v315 c I f3) (sl.v319 c G f4) (sl.v327 c I f3) (sl.v331 c G f4)

theorem d3_apply (e : Fin 128) (r : Fin 256) :
    d3 c X S W I G f1 f2 f3 f4 (ix2 e r) = Spec.dl (xOf X) (sOf S) (wOf W) (iOf I) (gOf G) (tok 768 (by decide) r) e := by
  unfold d3
  rw [wt_load, v221_load, v301_load, v315_load, v319_load, v327_load, v331_load]
  exact dlT_block X S W I G 768 1 256 (by decide) rfl rfl rfl _ _ _ _ e r

theorem s3_apply (r : Fin 256) : sl.v301 c S f1 (ix2 0 r) = sOf S (tok 768 (by decide) r) := by
  rw [v301_load]
  exact scale_block S 768 1 256 (by decide) rfl rfl rfl _ r

/-- The gradient of the logits of block 4, experts by tokens. -/
def d4 : FVec Ideal S128x256 .f32 :=
  Block.dlT (sl.v51 c W f2) (sl.v299 c X) (sl.v379 c S f1) (sl.v393 c I f3) (sl.v397 c G f4) (sl.v405 c I f3) (sl.v409 c G f4)

theorem d4_apply (e : Fin 128) (r : Fin 256) :
    d4 c X S W I G f1 f2 f3 f4 (ix2 e r) = Spec.dl (xOf X) (sOf S) (wOf W) (iOf I) (gOf G) (tok 1024 (by decide) r) e := by
  unfold d4
  rw [wt_load, v299_load, v379_load, v393_load, v397_load, v405_load, v409_load]
  exact dlT_block X S W I G 1024 2 0 (by decide) rfl rfl rfl _ _ _ _ e r

theorem s4_apply (r : Fin 256) : sl.v379 c S f1 (ix2 0 r) = sOf S (tok 1024 (by decide) r) := by
  rw [v379_load]
  exact scale_block S 1024 2 0 (by decide) rfl rfl rfl _ r

/-- The gradient of the logits of block 5, experts by tokens. -/
def d5 : FVec Ideal S128x256 .f32 :=
  Block.dlT (sl.v51 c W f2) (sl.v377 c X) (sl.v457 c S f1) (sl.v471 c I f3) (sl.v475 c G f4) (sl.v483 c I f3) (sl.v487 c G f4)

theorem d5_apply (e : Fin 128) (r : Fin 256) :
    d5 c X S W I G f1 f2 f3 f4 (ix2 e r) = Spec.dl (xOf X) (sOf S) (wOf W) (iOf I) (gOf G) (tok 1280 (by decide) r) e := by
  unfold d5
  rw [wt_load, v377_load, v457_load, v471_load, v475_load, v483_load, v487_load]
  exact dlT_block X S W I G 1280 2 256 (by decide) rfl rfl rfl _ _ _ _ e r

theorem s5_apply (r : Fin 256) : sl.v457 c S f1 (ix2 0 r) = sOf S (tok 1280 (by decide) r) := by
  rw [v457_load]
  exact scale_block S 1280 2 256 (by decide) rfl rfl rfl _ r

/-- The gradient of the logits of block 6, experts by tokens. -/
def d6 : FVec Ideal S128x256 .f32 :=
  Block.dlT (sl.v51 c W f2) (sl.v455 c X) (sl.v535 c S f1) (sl.v549 c I f3) (sl.v553 c G f4) (sl.v561 c I f3) (sl.v565 c G f4)

theorem d6_apply (e : Fin 128) (r : Fin 256) :
    d6 c X S W I G f1 f2 f3 f4 (ix2 e r) = Spec.dl (xOf X) (sOf S) (wOf W) (iOf I) (gOf G) (tok 1536 (by decide) r) e := by
  unfold d6
  rw [wt_load, v455_load, v535_load, v549_load, v553_load, v561_load, v565_load]
  exact dlT_block X S W I G 1536 3 0 (by decide) rfl rfl rfl _ _ _ _ e r

theorem s6_apply (r : Fin 256) : sl.v535 c S f1 (ix2 0 r) = sOf S (tok 1536 (by decide) r) := by
  rw [v535_load]
  exact scale_block S 1536 3 0 (by decide) rfl rfl rfl _ r

/-- The gradient of the logits of block 7, experts by tokens. -/
def d7 : FVec Ideal S128x256 .f32 :=
  Block.dlT (sl.v51 c W f2) (sl.v533 c X) (sl.v606 c S f1) (sl.v620 c I f3) (sl.v624 c G f4) (sl.v632 c I f3) (sl.v636 c G f4)

theorem d7_apply (e : Fin 128) (r : Fin 256) :
    d7 c X S W I G f1 f2 f3 f4 (ix2 e r) = Spec.dl (xOf X) (sOf S) (wOf W) (iOf I) (gOf G) (tok 1792 (by decide) r) e := by
  unfold d7
  rw [wt_load, v533_load, v606_load, v620_load, v624_load, v632_load, v636_load]
  exact dlT_block X S W I G 1792 3 256 (by decide) rfl rfl rfl _ _ _ _ e r

theorem s7_apply (r : Fin 256) : sl.v606 c S f1 (ix2 0 r) = sOf S (tok 1792 (by decide) r) := by
  rw [v606_load]
  exact scale_block S 1792 3 256 (by decide) rfl rfl rfl _ r

/-! ## The pieces of `dl` -/

theorem dl_good0 : Good (Val := Elt Ideal) (s := S2048x128) (e := .f32) (specDl X S W I G) (sl.HB9_1 c X S W I G f1 f2 f3 f4) :=
  good_cons (fun x => dl_piece X S W I G 0 (by decide) (d0 c X S W I G f1 f2 f3 f4) (d0_apply c X S W I G f1 f2 f3 f4) (by decide) x) (good_nil _)

theorem dl_good1 : Good (Val := Elt Ideal) (s := S2048x128) (e := .f32) (specDl X S W I G) (sl.HB9_2 c X S W I G f1 f2 f3 f4) :=
  good_cons (fun x => dl_piece X S W I G 256 (by decide) (d1 c X S W I G f1 f2 f3 f4) (d1_apply c X S W I G f1 f2 f3 f4) (by decide) x) (dl_good0 c X S W I G f1 f2 f3 f4)

theorem dl_good2 : Good (Val := Elt Ideal) (s := S2048x128) (e := .f32) (specDl X S W I G) (sl.HB9_3 c X S W I G f1 f2 f3 f4) :=
  good_cons (fun x => dl_piece X S W I G 512 (by decide) (d2 c X S W I G f1 f2 f3 f4) (d2_apply c X S W I G f1 f2 f3 f4) (by decide) x) (dl_good1 c X S W I G f1 f2 f3 f4)

theorem dl_good3 : Good (Val := Elt Ideal) (s := S2048x128) (e := .f32) (specDl X S W I G) (sl.HB9_4 c X S W I G f1 f2 f3 f4) :=
  good_cons (fun x => dl_piece X S W I G 768 (by decide) (d3 c X S W I G f1 f2 f3 f4) (d3_apply c X S W I G f1 f2 f3 f4) (by decide) x) (dl_good2 c X S W I G f1 f2 f3 f4)

theorem dl_good4 : Good (Val := Elt Ideal) (s := S2048x128) (e := .f32) (specDl X S W I G) (sl.HB9_5 c X S W I G f1 f2 f3 f4) :=
  good_cons (fun x => dl_piece X S W I G 1024 (by decide) (d4 c X S W I G f1 f2 f3 f4) (d4_apply c X S W I G f1 f2 f3 f4) (by decide) x) (dl_good3 c X S W I G f1 f2 f3 f4)

theorem dl_good5 : Good (Val := Elt Ideal) (s := S2048x128) (e := .f32) (specDl X S W I G) (sl.HB9_6 c X S W I G f1 f2 f3 f4) :=
  good_cons (fun x => dl_piece X S W I G 1280 (by decide) (d5 c X S W I G f1 f2 f3 f4) (d5_apply c X S W I G f1 f2 f3 f4) (by decide) x) (dl_good4 c X S W I G f1 f2 f3 f4)

theorem dl_good6 : Good (Val := Elt Ideal) (s := S2048x128) (e := .f32) (specDl X S W I G) (sl.HB9_7 c X S W I G f1 f2 f3 f4) :=
  good_cons (fun x => dl_piece X S W I G 1536 (by decide) (d6 c X S W I G f1 f2 f3 f4) (d6_apply c X S W I G f1 f2 f3 f4) (by decide) x) (dl_good5 c X S W I G f1 f2 f3 f4)

theorem dl_good7 : Good (Val := Elt Ideal) (s := S2048x128) (e := .f32) (specDl X S W I G) (sl.HB9_8 c X S W I G f1 f2 f3 f4) :=
  good_cons (fun x => dl_piece X S W I G 1792 (by decide) (d7 c X S W I G f1 f2 f3 f4) (d7_apply c X S W I G f1 f2 f3 f4) (by decide) x) (dl_good6 c X S W I G f1 f2 f3 f4)

/-! ## The pieces of `dx` -/

theorem dx_good0 : Good (Val := Elt Ideal) (s := S2048x5120) (e := .bf16) (specDx X S W I G) (sl.HB7_1 c X S W I G f1 f2 f3 f4) :=
  good_cons (fun x => (congrFun (congrArg (Block.dxOut (d0 c X S W I G f1 f2 f3 f4)) (wt_load c W f2)) x).trans
    (dx_piece X S W I G 0 (by decide) (d0 c X S W I G f1 f2 f3 f4) (d0_apply c X S W I G f1 f2 f3 f4) (by decide) x)) (good_nil _)

theorem dx_good1 : Good (Val := Elt Ideal) (s := S2048x5120) (e := .bf16) (specDx X S W I G) (sl.HB7_2 c X S W I G f1 f2 f3 f4) :=
  good_cons (fun x => (congrFun (congrArg (Block.dxOut (d1 c X S W I G f1 f2 f3 f4)) (wt_load c W f2)) x).trans
    (dx_piece X S W I G 256 (by decide) (d1 c X S W I G f1 f2 f3 f4) (d1_apply c X S W I G f1 f2 f3 f4) (by decide) x)) (dx_good0 c X S W I G f1 f2 f3 f4)

theorem dx_good2 : Good (Val := Elt Ideal) (s := S2048x5120) (e := .bf16) (specDx X S W I G) (sl.HB7_3 c X S W I G f1 f2 f3 f4) :=
  good_cons (fun x => (congrFun (congrArg (Block.dxOut (d2 c X S W I G f1 f2 f3 f4)) (wt_load c W f2)) x).trans
    (dx_piece X S W I G 512 (by decide) (d2 c X S W I G f1 f2 f3 f4) (d2_apply c X S W I G f1 f2 f3 f4) (by decide) x)) (dx_good1 c X S W I G f1 f2 f3 f4)

theorem dx_good3 : Good (Val := Elt Ideal) (s := S2048x5120) (e := .bf16) (specDx X S W I G) (sl.HB7_4 c X S W I G f1 f2 f3 f4) :=
  good_cons (fun x => (congrFun (congrArg (Block.dxOut (d3 c X S W I G f1 f2 f3 f4)) (wt_load c W f2)) x).trans
    (dx_piece X S W I G 768 (by decide) (d3 c X S W I G f1 f2 f3 f4) (d3_apply c X S W I G f1 f2 f3 f4) (by decide) x)) (dx_good2 c X S W I G f1 f2 f3 f4)

theorem dx_good4 : Good (Val := Elt Ideal) (s := S2048x5120) (e := .bf16) (specDx X S W I G) (sl.HB7_5 c X S W I G f1 f2 f3 f4) :=
  good_cons (fun x => (congrFun (congrArg (Block.dxOut (d4 c X S W I G f1 f2 f3 f4)) (wt_load c W f2)) x).trans
    (dx_piece X S W I G 1024 (by decide) (d4 c X S W I G f1 f2 f3 f4) (d4_apply c X S W I G f1 f2 f3 f4) (by decide) x)) (dx_good3 c X S W I G f1 f2 f3 f4)

theorem dx_good5 : Good (Val := Elt Ideal) (s := S2048x5120) (e := .bf16) (specDx X S W I G) (sl.HB7_6 c X S W I G f1 f2 f3 f4) :=
  good_cons (fun x => (congrFun (congrArg (Block.dxOut (d5 c X S W I G f1 f2 f3 f4)) (wt_load c W f2)) x).trans
    (dx_piece X S W I G 1280 (by decide) (d5 c X S W I G f1 f2 f3 f4) (d5_apply c X S W I G f1 f2 f3 f4) (by decide) x)) (dx_good4 c X S W I G f1 f2 f3 f4)

theorem dx_good6 : Good (Val := Elt Ideal) (s := S2048x5120) (e := .bf16) (specDx X S W I G) (sl.HB7_7 c X S W I G f1 f2 f3 f4) :=
  good_cons (fun x => (congrFun (congrArg (Block.dxOut (d6 c X S W I G f1 f2 f3 f4)) (wt_load c W f2)) x).trans
    (dx_piece X S W I G 1536 (by decide) (d6 c X S W I G f1 f2 f3 f4) (d6_apply c X S W I G f1 f2 f3 f4) (by decide) x)) (dx_good5 c X S W I G f1 f2 f3 f4)

theorem dx_good7 : Good (Val := Elt Ideal) (s := S2048x5120) (e := .bf16) (specDx X S W I G) (sl.HB7_8 c X S W I G f1 f2 f3 f4) :=
  good_cons (fun x => (congrFun (congrArg (Block.dxOut (d7 c X S W I G f1 f2 f3 f4)) (wt_load c W f2)) x).trans
    (dx_piece X S W I G 1792 (by decide) (d7 c X S W I G f1 f2 f3 f4) (d7_apply c X S W I G f1 f2 f3 f4) (by decide) x)) (dx_good6 c X S W I G f1 f2 f3 f4)

/-! ## The pieces of `ds` -/

theorem ds_good0 : Good (Val := Elt Ideal) (s := S128x2048) (e := .bf16) (specDs X S W I G) (sl.HB6_1 c X S W I G f1 f2 f3 f4) :=
  good_cons (fun x => ds_piece X S W I G 0 (by decide) (d0 c X S W I G f1 f2 f3 f4) (d0_apply c X S W I G f1 f2 f3 f4) (sl.v67 c S f1) (s0_apply c S f1) (by decide) x) (good_nil _)

theorem ds_good1 : Good (Val := Elt Ideal) (s := S128x2048) (e := .bf16) (specDs X S W I G) (sl.HB6_2 c X S W I G f1 f2 f3 f4) :=
  good_cons (fun x => ds_piece X S W I G 256 (by decide) (d1 c X S W I G f1 f2 f3 f4) (d1_apply c X S W I G f1 f2 f3 f4) (sl.v145 c S f1) (s1_apply c S f1) (by decide) x) (ds_good0 c X S W I G f1 f2 f3 f4)

theorem ds_good2 : Good (Val := Elt Ideal) (s := S128x2048) (e := .bf16) (specDs X S W I G) (sl.HB6_3 c X S W I G f1 f2 f3 f4) :=
  good_cons (fun x => ds_piece X S W I G 512 (by decide) (d2 c X S W I G f1 f2 f3 f4) (d2_apply c X S W I G f1 f2 f3 f4) (sl.v223 c S f1) (s2_apply c S f1) (by decide) x) (ds_good1 c X S W I G f1 f2 f3 f4)

theorem ds_good3 : Good (Val := Elt Ideal) (s := S128x2048) (e := .bf16) (specDs X S W I G) (sl.HB6_4 c X S W I G f1 f2 f3 f4) :=
  good_cons (fun x => ds_piece X S W I G 768 (by decide) (d3 c X S W I G f1 f2 f3 f4) (d3_apply c X S W I G f1 f2 f3 f4) (sl.v301 c S f1) (s3_apply c S f1) (by decide) x) (ds_good2 c X S W I G f1 f2 f3 f4)

theorem ds_good4 : Good (Val := Elt Ideal) (s := S128x2048) (e := .bf16) (specDs X S W I G) (sl.HB6_5 c X S W I G f1 f2 f3 f4) :=
  good_cons (fun x => ds_piece X S W I G 1024 (by decide) (d4 c X S W I G f1 f2 f3 f4) (d4_apply c X S W I G f1 f2 f3 f4) (sl.v379 c S f1) (s4_apply c S f1) (by decide) x) (ds_good3 c X S W I G f1 f2 f3 f4)

theorem ds_good5 : Good (Val := Elt Ideal) (s := S128x2048) (e := .bf16) (specDs X S W I G) (sl.HB6_6 c X S W I G f1 f2 f3 f4) :=
  good_cons (fun x => ds_piece X S W I G 1280 (by decide) (d5 c X S W I G f1 f2 f3 f4) (d5_apply c X S W I G f1 f2 f3 f4) (sl.v457 c S f1) (s5_apply c S f1) (by decide) x) (ds_good4 c X S W I G f1 f2 f3 f4)

theorem ds_good6 : Good (Val := Elt Ideal) (s := S128x2048) (e := .bf16) (specDs X S W I G) (sl.HB6_7 c X S W I G f1 f2 f3 f4) :=
  good_cons (fun x => ds_piece X S W I G 1536 (by decide) (d6 c X S W I G f1 f2 f3 f4) (d6_apply c X S W I G f1 f2 f3 f4) (sl.v535 c S f1) (s6_apply c S f1) (by decide) x) (ds_good5 c X S W I G f1 f2 f3 f4)

theorem ds_good7 : Good (Val := Elt Ideal) (s := S128x2048) (e := .bf16) (specDs X S W I G) (sl.HB6_8 c X S W I G f1 f2 f3 f4) :=
  good_cons (fun x => ds_piece X S W I G 1792 (by decide) (d7 c X S W I G f1 f2 f3 f4) (d7_apply c X S W I G f1 f2 f3 f4) (sl.v606 c S f1) (s7_apply c S f1) (by decide) x) (ds_good6 c X S W I G f1 f2 f3 f4)

/-! ## The pieces of the weights' gradient -/

theorem ds_cover (y : S128x2048.Idx) : ∃ p ∈ sl.HB6_8 c X S W I G f1 f2 f3 f4, y ∈ p.1.set :=
  View.cover_of_tiled (sl.HB6_8 c X S W I G f1 f2 f3 f4) S128x256.size (by rfl) y

theorem ds_load : sl.v677 c X S W I G f1 f2 f3 f4 = fun j => specDs X S W I G ((Rect.unit (s := S128x2048) ![0, 0] S128x2048.size (by decide)).toLoadRect.idx j) :=
  readCov_good (Memref.whole cc0_scratch6).view (ds_good7 c X S W I G f1 f2 f3 f4) (ds_cover c X S W I G f1 f2 f3 f4) _

theorem dw_good0 : Good (Val := Elt Ideal) (s := S5120x128) (e := .f32) (specDw X S W I G) (sl.HB8_1 c X S W I G f1 f2 f3 f4) :=
  good_cons (fun x => (congrFun (congrArg₂ (k0_pay70 (F := Ideal)) (ds_load c X S W I G f1 f2 f3 f4) (v678_load c X)) x).trans
    (dw_piece X S W I G 0 (by decide) (by decide) (by decide) x)) (good_nil _)

theorem dw_good1 : Good (Val := Elt Ideal) (s := S5120x128) (e := .f32) (specDw X S W I G) (sl.HB8_2 c X S W I G f1 f2 f3 f4) :=
  good_cons (fun x => (congrFun (congrArg₂ (k0_pay70 (F := Ideal)) (ds_load c X S W I G f1 f2 f3 f4) (v689_load c X)) x).trans
    (dw_piece X S W I G 512 (by decide) (by decide) (by decide) x)) (dw_good0 c X S W I G f1 f2 f3 f4)

theorem dw_good2 : Good (Val := Elt Ideal) (s := S5120x128) (e := .f32) (specDw X S W I G) (sl.HB8_3 c X S W I G f1 f2 f3 f4) :=
  good_cons (fun x => (congrFun (congrArg₂ (k0_pay70 (F := Ideal)) (ds_load c X S W I G f1 f2 f3 f4) (v700_load c X)) x).trans
    (dw_piece X S W I G 1024 (by decide) (by decide) (by decide) x)) (dw_good1 c X S W I G f1 f2 f3 f4)

theorem dw_good3 : Good (Val := Elt Ideal) (s := S5120x128) (e := .f32) (specDw X S W I G) (sl.HB8_4 c X S W I G f1 f2 f3 f4) :=
  good_cons (fun x => (congrFun (congrArg₂ (k0_pay70 (F := Ideal)) (ds_load c X S W I G f1 f2 f3 f4) (v711_load c X)) x).trans
    (dw_piece X S W I G 1536 (by decide) (by decide) (by decide) x)) (dw_good2 c X S W I G f1 f2 f3 f4)

theorem dw_good4 : Good (Val := Elt Ideal) (s := S5120x128) (e := .f32) (specDw X S W I G) (sl.HB8_5 c X S W I G f1 f2 f3 f4) :=
  good_cons (fun x => (congrFun (congrArg₂ (k0_pay70 (F := Ideal)) (ds_load c X S W I G f1 f2 f3 f4) (v722_load c X)) x).trans
    (dw_piece X S W I G 2048 (by decide) (by decide) (by decide) x)) (dw_good3 c X S W I G f1 f2 f3 f4)

theorem dw_good5 : Good (Val := Elt Ideal) (s := S5120x128) (e := .f32) (specDw X S W I G) (sl.HB8_6 c X S W I G f1 f2 f3 f4) :=
  good_cons (fun x => (congrFun (congrArg₂ (k0_pay70 (F := Ideal)) (ds_load c X S W I G f1 f2 f3 f4) (v733_load c X)) x).trans
    (dw_piece X S W I G 2560 (by decide) (by decide) (by decide) x)) (dw_good4 c X S W I G f1 f2 f3 f4)

theorem dw_good6 : Good (Val := Elt Ideal) (s := S5120x128) (e := .f32) (specDw X S W I G) (sl.HB8_7 c X S W I G f1 f2 f3 f4) :=
  good_cons (fun x => (congrFun (congrArg₂ (k0_pay70 (F := Ideal)) (ds_load c X S W I G f1 f2 f3 f4) (v744_load c X)) x).trans
    (dw_piece X S W I G 3072 (by decide) (by decide) (by decide) x)) (dw_good5 c X S W I G f1 f2 f3 f4)

theorem dw_good7 : Good (Val := Elt Ideal) (s := S5120x128) (e := .f32) (specDw X S W I G) (sl.HB8_8 c X S W I G f1 f2 f3 f4) :=
  good_cons (fun x => (congrFun (congrArg₂ (k0_pay70 (F := Ideal)) (ds_load c X S W I G f1 f2 f3 f4) (v755_load c X)) x).trans
    (dw_piece X S W I G 3584 (by decide) (by decide) (by decide) x)) (dw_good6 c X S W I G f1 f2 f3 f4)

theorem dw_good8 : Good (Val := Elt Ideal) (s := S5120x128) (e := .f32) (specDw X S W I G) (sl.HB8_9 c X S W I G f1 f2 f3 f4) :=
  good_cons (fun x => (congrFun (congrArg₂ (k0_pay70 (F := Ideal)) (ds_load c X S W I G f1 f2 f3 f4) (v766_load c X)) x).trans
    (dw_piece X S W I G 4096 (by decide) (by decide) (by decide) x)) (dw_good7 c X S W I G f1 f2 f3 f4)

theorem dw_good9 : Good (Val := Elt Ideal) (s := S5120x128) (e := .f32) (specDw X S W I G) (sl.HB8_10 c X S W I G f1 f2 f3 f4) :=
  good_cons (fun x => (congrFun (congrArg₂ (k0_pay70 (F := Ideal)) (ds_load c X S W I G f1 f2 f3 f4) (v777_load c X)) x).trans
    (dw_piece X S W I G 4608 (by decide) (by decide) (by decide) x)) (dw_good8 c X S W I G f1 f2 f3 f4)

/-! ## The three results -/

section Results
variable (f0 : Buf (Elt Ideal) ((c : Thread nD τ).loc cc0_scratch0)) (f5 : Buf (Elt Ideal) ((c : Thread nD τ).loc cc0_scratch5)) (f6 : Buf (Elt Ideal) ((c : Thread nD τ).loc cc0_scratch6)) (f7 : Buf (Elt Ideal) ((c : Thread nD τ).loc cc0_scratch7)) (f8 : Buf (Elt Ideal) ((c : Thread nD τ).loc cc0_scratch8)) (f9 : Buf (Elt Ideal) ((c : Thread nD τ).loc cc0_scratch9))
  (dx : Buf (Elt Ideal) ((c : Thread nD τ).loc main_v3_0)) (dw : Buf (Elt Ideal) ((c : Thread nD τ).loc main_v3_1))
  (dl : Buf (Elt Ideal) ((c : Thread nD τ).loc main_v3_2))

/-- The copies out of the token rows' gradient, newest first. -/
def dxFinal : List (View.Piece (Elt Ideal) S2048x5120 .bf16) :=
  [⟨Rect.unit ![1792, 0] S256x5120.size (by decide), sl.dma115 c X S W I G f1 f2 f3 f4 f7⟩,
    ⟨Rect.unit ![1536, 0] S256x5120.size (by decide), sl.dma103 c X S W I G f1 f2 f3 f4 f7⟩,
    ⟨Rect.unit ![1280, 0] S256x5120.size (by decide), sl.dma89 c X S W I G f1 f2 f3 f4 f7⟩,
    ⟨Rect.unit ![1024, 0] S256x5120.size (by decide), sl.dma75 c X S W I G f1 f2 f3 f4 f7⟩,
    ⟨Rect.unit ![768, 0] S256x5120.size (by decide), sl.dma61 c X S W I G f1 f2 f3 f4 f7⟩,
    ⟨Rect.unit ![512, 0] S256x5120.size (by decide), sl.dma47 c X S W I G f1 f2 f3 f4 f7⟩,
    ⟨Rect.unit ![256, 0] S256x5120.size (by decide), sl.dma33 c X S W I G f1 f2 f3 f4 f7⟩,
    ⟨Rect.unit ![0, 0] S256x5120.size (by decide), sl.dma19 c X S W I G f1 f2 f3 f4 f7⟩]

theorem dxFinal_good : Good (Val := Elt Ideal) (s := S2048x5120) (e := .bf16) (specDx X S W I G) (dxFinal c X S W I G f1 f2 f3 f4 f7) := by
  refine good_cons (fun x => slice_good (Memref.whole cc0_scratch7).view f7 (dx_good7 c X S W I G f1 f2 f3 f4) x) <|
    good_cons (fun x => slice_good (Memref.whole cc0_scratch7).view f7 (dx_good6 c X S W I G f1 f2 f3 f4) x) <|
    good_cons (fun x => slice_good (Memref.whole cc0_scratch7).view f7 (dx_good5 c X S W I G f1 f2 f3 f4) x) <|
    good_cons (fun x => slice_good (Memref.whole cc0_scratch7).view f7 (dx_good4 c X S W I G f1 f2 f3 f4) x) <|
    good_cons (fun x => slice_good (Memref.whole cc0_scratch7).view f7 (dx_good3 c X S W I G f1 f2 f3 f4) x) <|
    good_cons (fun x => slice_good (Memref.whole cc0_scratch7).view f7 (dx_good2 c X S W I G f1 f2 f3 f4) x) <|
    good_cons (fun x => slice_good (Memref.whole cc0_scratch7).view f7 (dx_good1 c X S W I G f1 f2 f3 f4) x) <|
    good_cons (fun x => slice_good (Memref.whole cc0_scratch7).view f7 (dx_good0 c X S W I G f1 f2 f3 f4) x) <| good_nil _

theorem dxFinal_cover (y : S2048x5120.Idx) : ∃ p ∈ dxFinal c X S W I G f1 f2 f3 f4 f7, y ∈ p.1.set :=
  View.cover_of_tiled (dxFinal c X S W I G f1 f2 f3 f4 f7) S256x5120.size (by rfl) y

/-- The body leaves the token rows' gradient of the specification. -/
theorem dx_result : (bodyRun c X S W I G f0 f1 f2 f3 f4 f5 f6 f7 f8 f9 dx dw dl).1.1 = specDx X S W I G := by
  refine Eq.trans (b := (View.whole main_v3_0).writes (Elt Ideal) dx (dxFinal c X S W I G f1 f2 f3 f4 f7)) ?_
    (whole_good main_v3_0 dx (dxFinal_good c X S W I G f1 f2 f3 f4 f7) (dxFinal_cover c X S W I G f1 f2 f3 f4 f7))
  unfold bodyRun
  dsimp only
  rfl

/-- The copies out of the weights' gradient, newest first. -/
def dwFinal : List (View.Piece (Elt Ideal) S5120x128 .f32) :=
  [⟨Rect.unit ![4608, 0] S512x128.size (by decide), sl.dma155 c X S W I G f1 f2 f3 f4 f8⟩,
    ⟨Rect.unit ![4096, 0] S512x128.size (by decide), sl.dma151 c X S W I G f1 f2 f3 f4 f8⟩,
    ⟨Rect.unit ![3584, 0] S512x128.size (by decide), sl.dma147 c X S W I G f1 f2 f3 f4 f8⟩,
    ⟨Rect.unit ![3072, 0] S512x128.size (by decide), sl.dma143 c X S W I G f1 f2 f3 f4 f8⟩,
    ⟨Rect.unit ![2560, 0] S512x128.size (by decide), sl.dma139 c X S W I G f1 f2 f3 f4 f8⟩,
    ⟨Rect.unit ![2048, 0] S512x128.size (by decide), sl.dma135 c X S W I G f1 f2 f3 f4 f8⟩,
    ⟨Rect.unit ![1536, 0] S512x128.size (by decide), sl.dma131 c X S W I G f1 f2 f3 f4 f8⟩,
    ⟨Rect.unit ![1024, 0] S512x128.size (by decide), sl.dma127 c X S W I G f1 f2 f3 f4 f8⟩,
    ⟨Rect.unit ![512, 0] S512x128.size (by decide), sl.dma123 c X S W I G f1 f2 f3 f4 f8⟩,
    ⟨Rect.unit ![0, 0] S512x128.size (by decide), sl.dma119 c X S W I G f1 f2 f3 f4 f8⟩]

theorem dwFinal_good : Good (Val := Elt Ideal) (s := S5120x128) (e := .f32) (specDw X S W I G) (dwFinal c X S W I G f1 f2 f3 f4 f8) := by
  refine good_cons (fun x => slice_good (Memref.whole cc0_scratch8).view f8 (dw_good9 c X S W I G f1 f2 f3 f4) x) <|
    good_cons (fun x => slice_good (Memref.whole cc0_scratch8).view f8 (dw_good8 c X S W I G f1 f2 f3 f4) x) <|
    good_cons (fun x => slice_good (Memref.whole cc0_scratch8).view f8 (dw_good7 c X S W I G f1 f2 f3 f4) x) <|
    good_cons (fun x => slice_good (Memref.whole cc0_scratch8).view f8 (dw_good6 c X S W I G f1 f2 f3 f4) x) <|
    good_cons (fun x => slice_good (Memref.whole cc0_scratch8).view f8 (dw_good5 c X S W I G f1 f2 f3 f4) x) <|
    good_cons (fun x => slice_good (Memref.whole cc0_scratch8).view f8 (dw_good4 c X S W I G f1 f2 f3 f4) x) <|
    good_cons (fun x => slice_good (Memref.whole cc0_scratch8).view f8 (dw_good3 c X S W I G f1 f2 f3 f4) x) <|
    good_cons (fun x => slice_good (Memref.whole cc0_scratch8).view f8 (dw_good2 c X S W I G f1 f2 f3 f4) x) <|
    good_cons (fun x => slice_good (Memref.whole cc0_scratch8).view f8 (dw_good1 c X S W I G f1 f2 f3 f4) x) <|
    good_cons (fun x => slice_good (Memref.whole cc0_scratch8).view f8 (dw_good0 c X S W I G f1 f2 f3 f4) x) <| good_nil _

theorem dwFinal_cover (y : S5120x128.Idx) : ∃ p ∈ dwFinal c X S W I G f1 f2 f3 f4 f8, y ∈ p.1.set :=
  View.cover_of_tiled (dwFinal c X S W I G f1 f2 f3 f4 f8) S512x128.size (by rfl) y

/-- The body leaves the weights' gradient of the specification. -/
theorem dw_result : (bodyRun c X S W I G f0 f1 f2 f3 f4 f5 f6 f7 f8 f9 dx dw dl).1.2.1 = specDw X S W I G := by
  refine Eq.trans (b := (View.whole main_v3_1).writes (Elt Ideal) dw (dwFinal c X S W I G f1 f2 f3 f4 f8)) ?_
    (whole_good main_v3_1 dw (dwFinal_good c X S W I G f1 f2 f3 f4 f8) (dwFinal_cover c X S W I G f1 f2 f3 f4 f8))
  unfold bodyRun
  dsimp only
  rfl

/-- The copies out of the logits' gradient, newest first. -/
def dlFinal : List (View.Piece (Elt Ideal) S2048x128 .f32) :=
  [⟨Rect.unit ![1792, 0] S256x128.size (by decide), sl.dma112 c X S W I G f1 f2 f3 f4 f9⟩,
    ⟨Rect.unit ![1536, 0] S256x128.size (by decide), sl.dma100 c X S W I G f1 f2 f3 f4 f9⟩,
    ⟨Rect.unit ![1280, 0] S256x128.size (by decide), sl.dma86 c X S W I G f1 f2 f3 f4 f9⟩,
    ⟨Rect.unit ![1024, 0] S256x128.size (by decide), sl.dma72 c X S W I G f1 f2 f3 f4 f9⟩,
    ⟨Rect.unit ![768, 0] S256x128.size (by decide), sl.dma58 c X S W I G f1 f2 f3 f4 f9⟩,
    ⟨Rect.unit ![512, 0] S256x128.size (by decide), sl.dma44 c X S W I G f1 f2 f3 f4 f9⟩,
    ⟨Rect.unit ![256, 0] S256x128.size (by decide), sl.dma30 c X S W I G f1 f2 f3 f4 f9⟩,
    ⟨Rect.unit ![0, 0] S256x128.size (by decide), sl.dma16 c X S W I G f1 f2 f3 f4 f9⟩]

theorem dlFinal_good : Good (Val := Elt Ideal) (s := S2048x128) (e := .f32) (specDl X S W I G) (dlFinal c X S W I G f1 f2 f3 f4 f9) := by
  refine good_cons (fun x => slice_good (Memref.whole cc0_scratch9).view f9 (dl_good7 c X S W I G f1 f2 f3 f4) x) <|
    good_cons (fun x => slice_good (Memref.whole cc0_scratch9).view f9 (dl_good6 c X S W I G f1 f2 f3 f4) x) <|
    good_cons (fun x => slice_good (Memref.whole cc0_scratch9).view f9 (dl_good5 c X S W I G f1 f2 f3 f4) x) <|
    good_cons (fun x => slice_good (Memref.whole cc0_scratch9).view f9 (dl_good4 c X S W I G f1 f2 f3 f4) x) <|
    good_cons (fun x => slice_good (Memref.whole cc0_scratch9).view f9 (dl_good3 c X S W I G f1 f2 f3 f4) x) <|
    good_cons (fun x => slice_good (Memref.whole cc0_scratch9).view f9 (dl_good2 c X S W I G f1 f2 f3 f4) x) <|
    good_cons (fun x => slice_good (Memref.whole cc0_scratch9).view f9 (dl_good1 c X S W I G f1 f2 f3 f4) x) <|
    good_cons (fun x => slice_good (Memref.whole cc0_scratch9).view f9 (dl_good0 c X S W I G f1 f2 f3 f4) x) <| good_nil _

theorem dlFinal_cover (y : S2048x128.Idx) : ∃ p ∈ dlFinal c X S W I G f1 f2 f3 f4 f9, y ∈ p.1.set :=
  View.cover_of_tiled (dlFinal c X S W I G f1 f2 f3 f4 f9) S256x128.size (by rfl) y

/-- The body leaves the logits' gradient of the specification. -/
theorem dl_result : (bodyRun c X S W I G f0 f1 f2 f3 f4 f5 f6 f7 f8 f9 dx dw dl).1.2.2 = specDl X S W I G := by
  refine Eq.trans (b := (View.whole main_v3_2).writes (Elt Ideal) dl (dlFinal c X S W I G f1 f2 f3 f4 f9)) ?_
    (whole_good main_v3_2 dl (dlFinal_good c X S W I G f1 f2 f3 f4 f9) (dlFinal_cover c X S W I G f1 f2 f3 f4 f9))
  unfold bodyRun
  dsimp only
  rfl

end Results

end

end Cert.Proof.Stores
-- ==== Proof.Algebraic.lean ====
module
public import proofs.«01_k».proof.Defs
public import proofs.«01_k».proof.Proof.Operands
public import proofs.«01_k».proof.Proof.Stores
public import proofs.«01_k».proof.Proof.LaunchKernelIdeal
@[expose] public section
set_option maxRecDepth 16384
noncomputable section

/-!
# The kernel and the reference leave the same three results

Both leave the specification's gradients: of the kernel's operands the one, of the reference's the other. From equal
arguments the two read the same tokens, scales, weights, expert indices and gradients.
-/

namespace Cert.Proof.Algebraic
open Idealize.ShloMosaic Idealize.ShloMosaic.TcCoe Idealize.SL.Sem

section Kernel
open Cert.KernelIdeal Cert.KernelIdeal.Gen
variable (m : (ℓ : Loc nD τ sig) → Buf (Elt Ideal) ℓ) (c : Dev nD)

/-- The token rows' gradient of the kernel's operands, -/
def outDx : Vec Ideal S2048x5120 .bf16 := Loads.specDx (V m c main_v2) (V m c main_arg1) (V m c main_arg2) (V m c main_v0) (V m c main_v1)
/-- the weights' -/
def outDw : Vec Ideal S5120x128 .f32 := Loads.specDw (V m c main_v2) (V m c main_arg1) (V m c main_arg2) (V m c main_v0) (V m c main_v1)
/-- and the logits'. -/
def outDl : Vec Ideal S2048x128 .f32 := Loads.specDl (V m c main_v2) (V m c main_arg1) (V m c main_arg2) (V m c main_v0) (V m c main_v1)

/-- Whatever the scratch and the results held before, the body leaves the three gradients. -/
theorem outV_eq {dx : Buf (Elt Ideal) ((c : Thread nD τ).loc main_v3_0)} {dw : Buf (Elt Ideal) ((c : Thread nD τ).loc main_v3_1)}
    {dl : Buf (Elt Ideal) ((c : Thread nD τ).loc main_v3_2)} (h : LaunchKernelIdeal.OutV m c dx dw dl) :
    dx = outDx m c ∧ dw = outDw m c ∧ dl = outDl m c := by
  obtain ⟨f0, f1, f2, f3, f4, f5, f6, f7, f8, f9, dx0, dw0, dl0, h0, h1, h2⟩ := h
  exact ⟨h0.trans (Stores.dx_result c _ _ _ _ _ f1 f2 f3 f4 f0 f5 f6 f7 f8 f9 dx0 dw0 dl0),
    h1.trans (Stores.dw_result c _ _ _ _ _ f1 f2 f3 f4 f0 f5 f6 f7 f8 f9 dx0 dw0 dl0),
    h2.trans (Stores.dl_result c _ _ _ _ _ f1 f2 f3 f4 f0 f5 f6 f7 f8 f9 dx0 dw0 dl0)⟩

end Kernel

section Flat
open Cert.KernelIdeal
variable (A0 : Vec Ideal S4x512x5120 .fp8e4m3) (A1 : Vec Ideal S4x512 .f32) (A2 : Vec Ideal S5120x128 .bf16)
  (A3 : Vec Ideal S4x512x2 .i32) (A4 : Vec Ideal S4x512x2 .bf16)

/-- The flattened scales are the scales by sequence and place, -/
theorem s_eq : RefValue.sOf (shapeCast Cert.ReferenceIdeal.S2048x1 A1 Cert.ReferenceIdeal.Gen.shapeCasts_S4x512_S2048x1) = Loads.sOf A1 :=
  funext fun t => Operands.flat_s A1 t
/-- the flattened expert indices the transposed ones, -/
theorem i_eq : RefValue.iOf (shapeCast Cert.ReferenceIdeal.S2048x2 A3 Cert.ReferenceIdeal.Gen.shapeCasts_S4x512x2_S2048x2)
    = Loads.iOf (transpose S4x2x512 [0, 2, 1] A3 Cert.KernelIdeal.Gen.transposes_S4x512x2_S4x2x512_0_2_1) :=
  funext fun t => funext fun k => Operands.flat_i A3 t k
/-- and so the gates' gradients. -/
theorem g_eq : RefValue.gOf (shapeCast Cert.ReferenceIdeal.S2048x2 A4 Cert.ReferenceIdeal.Gen.shapeCasts_S4x512x2_S2048x2)
    = Loads.gOf (transpose S4x2x512 [0, 2, 1] A4 Cert.KernelIdeal.Gen.transposes_S4x512x2_S4x2x512_0_2_1) :=
  funext fun t => funext fun k => Operands.flat_g A4 t k

/-- So the token rows' gradient is one, however the operands are laid out, -/
theorem flatDx : RefValue.specDx (shapeCast Cert.ReferenceIdeal.S2048x5120 A0 Cert.ReferenceIdeal.Gen.shapeCasts_S4x512x5120_S2048x5120)
        (shapeCast Cert.ReferenceIdeal.S2048x1 A1 Cert.ReferenceIdeal.Gen.shapeCasts_S4x512_S2048x1) A2
        (shapeCast Cert.ReferenceIdeal.S2048x2 A3 Cert.ReferenceIdeal.Gen.shapeCasts_S4x512x2_S2048x2)
        (shapeCast Cert.ReferenceIdeal.S2048x2 A4 Cert.ReferenceIdeal.Gen.shapeCasts_S4x512x2_S2048x2)
    = Loads.specDx (shapeCast Cert.KernelIdeal.S2048x5120 A0 Cert.KernelIdeal.Gen.shapeCasts_S4x512x5120_S2048x5120) A1 A2
        (transpose Cert.KernelIdeal.S4x2x512 [0, 2, 1] A3 Cert.KernelIdeal.Gen.transposes_S4x512x2_S4x2x512_0_2_1)
        (transpose Cert.KernelIdeal.S4x2x512 [0, 2, 1] A4 Cert.KernelIdeal.Gen.transposes_S4x512x2_S4x2x512_0_2_1) := by
  unfold RefValue.specDx Loads.specDx
  rw [s_eq, i_eq, g_eq]
  rfl

/-- and the weights' -/
theorem flatDw : RefValue.specDw (shapeCast Cert.ReferenceIdeal.S2048x5120 A0 Cert.ReferenceIdeal.Gen.shapeCasts_S4x512x5120_S2048x5120)
        (shapeCast Cert.ReferenceIdeal.S2048x1 A1 Cert.ReferenceIdeal.Gen.shapeCasts_S4x512_S2048x1) A2
        (shapeCast Cert.ReferenceIdeal.S2048x2 A3 Cert.ReferenceIdeal.Gen.shapeCasts_S4x512x2_S2048x2)
        (shapeCast Cert.ReferenceIdeal.S2048x2 A4 Cert.ReferenceIdeal.Gen.shapeCasts_S4x512x2_S2048x2)
    = Loads.specDw (shapeCast Cert.KernelIdeal.S2048x5120 A0 Cert.KernelIdeal.Gen.shapeCasts_S4x512x5120_S2048x5120) A1 A2
        (transpose Cert.KernelIdeal.S4x2x512 [0, 2, 1] A3 Cert.KernelIdeal.Gen.transposes_S4x512x2_S4x2x512_0_2_1)
        (transpose Cert.KernelIdeal.S4x2x512 [0, 2, 1] A4 Cert.KernelIdeal.Gen.transposes_S4x512x2_S4x2x512_0_2_1) := by
  unfold RefValue.specDw Loads.specDw
  rw [s_eq, i_eq, g_eq]
  rfl

/-- and the logits'. -/
theorem flatDl : RefValue.specDl (shapeCast Cert.ReferenceIdeal.S2048x5120 A0 Cert.ReferenceIdeal.Gen.shapeCasts_S4x512x5120_S2048x5120)
        (shapeCast Cert.ReferenceIdeal.S2048x1 A1 Cert.ReferenceIdeal.Gen.shapeCasts_S4x512_S2048x1) A2
        (shapeCast Cert.ReferenceIdeal.S2048x2 A3 Cert.ReferenceIdeal.Gen.shapeCasts_S4x512x2_S2048x2)
        (shapeCast Cert.ReferenceIdeal.S2048x2 A4 Cert.ReferenceIdeal.Gen.shapeCasts_S4x512x2_S2048x2)
    = Loads.specDl (shapeCast Cert.KernelIdeal.S2048x5120 A0 Cert.KernelIdeal.Gen.shapeCasts_S4x512x5120_S2048x5120) A1 A2
        (transpose Cert.KernelIdeal.S4x2x512 [0, 2, 1] A3 Cert.KernelIdeal.Gen.transposes_S4x512x2_S4x2x512_0_2_1)
        (transpose Cert.KernelIdeal.S4x2x512 [0, 2, 1] A4 Cert.KernelIdeal.Gen.transposes_S4x512x2_S4x2x512_0_2_1) := by
  unfold RefValue.specDl Loads.specDl
  rw [s_eq, i_eq, g_eq]
  rfl

end Flat

section Same
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments on core `c`. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m' c}

/-- From equal arguments the reference's first result is the kernel's, -/
theorem refDx (h : Agree m m' c) : (Cert.ReferenceIdeal.Gen.dats m' 0 c).arrAt 5 Cert.ReferenceIdeal.cfg0.N = outDx m c := by
  obtain ⟨h0, h1, h2, h3, h4⟩ := h
  refine (RefValue.final5 m' c).trans ?_
  unfold outDx
  rw [Operands.ref_x, Operands.ref_s, Operands.ref_i, Operands.ref_g, Cert.ReferenceIdeal.Gen.V_main_arg2,
    Operands.kernel_x, Operands.kernel_i, Operands.kernel_g, Cert.KernelIdeal.Gen.V_main_arg1, Cert.KernelIdeal.Gen.V_main_arg2]
  erw [h0, h1, h2, h3, h4]
  exact flatDx _ _ _ _ _

/-- its second -/
theorem refDw (h : Agree m m' c) : (Cert.ReferenceIdeal.Gen.dats m' 0 c).arrAt 6 Cert.ReferenceIdeal.cfg0.N = outDw m c := by
  obtain ⟨h0, h1, h2, h3, h4⟩ := h
  refine (RefValue.final6 m' c).trans ?_
  unfold outDw
  rw [Operands.ref_x, Operands.ref_s, Operands.ref_i, Operands.ref_g, Cert.ReferenceIdeal.Gen.V_main_arg2,
    Operands.kernel_x, Operands.kernel_i, Operands.kernel_g, Cert.KernelIdeal.Gen.V_main_arg1, Cert.KernelIdeal.Gen.V_main_arg2]
  erw [h0, h1, h2, h3, h4]
  exact flatDw _ _ _ _ _

/-- and its third. -/
theorem refDl (h : Agree m m' c) : (Cert.ReferenceIdeal.Gen.dats m' 0 c).arrAt 7 Cert.ReferenceIdeal.cfg0.N = outDl m c := by
  obtain ⟨h0, h1, h2, h3, h4⟩ := h
  refine (RefValue.final7 m' c).trans ?_
  unfold outDl
  rw [Operands.ref_x, Operands.ref_s, Operands.ref_i, Operands.ref_g, Cert.ReferenceIdeal.Gen.V_main_arg2,
    Operands.kernel_x, Operands.kernel_i, Operands.kernel_g, Cert.KernelIdeal.Gen.V_main_arg1, Cert.KernelIdeal.Gen.V_main_arg2]
  erw [h0, h1, h2, h3, h4]
  exact flatDl _ _ _ _ _

end Same

/-- From equal arguments the two programs leave equal results, and their arguments unchanged. -/
theorem algebraic : Cert.algebraic_KernelIdeal_ReferenceIdeal (hKernelIdeal := Cert.KernelIdeal.Gen.facts)
    (hReferenceIdeal := Cert.ReferenceIdeal.Gen.facts) := fun m g m' g' _ hag =>
  ⟨fun c => outDx m c, fun c => outDw m c, fun c => outDl m c,
    (θ_run _ _ _).mono (fun r h c => by
      obtain ⟨⟨dx, dw, dl, ho, e0, e1, e2⟩, hargs⟩ := h.1 c
      obtain ⟨o0, o1, o2⟩ := outV_eq m c ho
      exact ⟨e0.trans o0, e1.trans o1, e2.trans o2, hargs⟩) (LaunchKernelIdeal.run_main m g),
    (θ_run _ _ _).mono (fun r h c => by
      obtain ⟨e0, e1, e2, hargs⟩ := h c
      exact ⟨e0.trans (refDx (hag c)), e1.trans (refDw (hag c)), e2.trans (refDl (hag c)), hargs⟩)
      (Cert.ReferenceIdeal.Value.run_blocks m' g')⟩

end Cert.Proof.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.LaunchKernel
public import proofs.«01_k».proof.Proof.LaunchKernelIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- `Cert.Claim` (Defs.lean): the three frames, that the idealization rewrote nothing, and that the kernel's three results are the reference's. -/
theorem claim : Cert.Claim :=
  ⟨Cert.Kernel.Gen.facts, Cert.KernelIdeal.Gen.facts, Cert.ReferenceIdeal.Gen.facts,
    LaunchKernel.frame, LaunchKernelIdeal.frame, fun m ρ _ => Cert.ReferenceIdeal.Gen.frame m ρ, trivial, Algebraic.algebraic⟩

end Cert.Proof

end
